-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1536x6144 : Shape := ⟨3, ![4, 1536, 6144]⟩
abbrev S3072x3072 : Shape := ⟨2, ![3072, 3072]⟩
abbrev S_ : Shape := ⟨0, ![]⟩
abbrev S6144x6144 : Shape := ⟨2, ![6144, 6144]⟩
abbrev S8x128 : Shape := ⟨2, ![8, 128]⟩
abbrev S256x3072 : Shape := ⟨2, ![256, 3072]⟩
abbrev S16x3072 : Shape := ⟨2, ![16, 3072]⟩
abbrev S2x8x24x128 : Shape := ⟨4, ![2, 8, 24, 128]⟩
abbrev S255 : Shape := ⟨1, ![255]⟩
abbrev S1 : Shape := ⟨1, ![1]⟩
abbrev S6144x3072 : Shape := ⟨2, ![6144, 3072]⟩
abbrev S4x1536x3072 : Shape := ⟨3, ![4, 1536, 3072]⟩

abbrev nBuf : Space → Nat
  | .hbm => 66
  | .vmem => 14
  | .smem => 2
  | _ => 0

abbrev bufTy : (tb : Table) → Fin (tcTables nBuf tb) → BufTy
  | .hbm, ⟨0, _⟩ => ⟨S4x1536x6144, .bf16⟩
  | .hbm, ⟨1, _⟩ => ⟨S3072x3072, .fp8e4m3⟩
  | .hbm, ⟨2, _⟩ => ⟨S_, .f32⟩
  | .hbm, ⟨3, _⟩ => ⟨S6144x6144, .bf16⟩
  | .hbm, ⟨4, _⟩ => ⟨S8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S255, .i32⟩
  | .hbm, ⟨10, _⟩ => ⟨S_, .i32⟩
  | .hbm, ⟨11, _⟩ => ⟨S255, .i32⟩
  | .hbm, ⟨12, _⟩ => ⟨S255, .i32⟩
  | .hbm, ⟨13, _⟩ => ⟨S_, .i32⟩
  | .hbm, ⟨14, _⟩ => ⟨S255, .i32⟩
  | .hbm, ⟨15, _⟩ => ⟨S255, .i32⟩
  | .hbm, ⟨16, _⟩ => ⟨S255, .f32⟩
  | .hbm, ⟨17, _⟩ => ⟨S255, .f32⟩
  | .hbm, ⟨18, _⟩ => ⟨S255, .i1⟩
  | .hbm, ⟨19, _⟩ => ⟨S255, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i1⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S1, .f32⟩
  | .hbm, ⟨60, _⟩ => ⟨S_, .f32⟩
  | .hbm, ⟨61, _⟩ => ⟨S1, .f32⟩
  | .hbm, ⟨62, _⟩ => ⟨S6144x3072, .bf16⟩
  | .hbm, ⟨63, _⟩ => ⟨S6144x3072, .fp8e4m3⟩
  | .hbm, ⟨64, _⟩ => ⟨S4x1536x3072, .bf16⟩
  | .hbm, ⟨65, _⟩ => ⟨S4x1536x3072, .fp8e4m3⟩
  | .local _ .vmem, ⟨0, _⟩ => ⟨S256x3072, .bf16⟩
  | .local _ .vmem, ⟨1, _⟩ => ⟨S256x3072, .bf16⟩
  | .local _ .vmem, ⟨2, _⟩ => ⟨S256x3072, .bf16⟩
  | .local _ .vmem, ⟨3, _⟩ => ⟨S256x3072, .bf16⟩
  | .local _ .vmem, ⟨4, _⟩ => ⟨S8x128, .f32⟩
  | .local _ .vmem, ⟨5, _⟩ => ⟨S256x3072, .bf16⟩
  | .local _ .vmem, ⟨6, _⟩ => ⟨S256x3072, .bf16⟩
  | .local _ .vmem, ⟨7, _⟩ => ⟨S256x3072, .bf16⟩
  | .local _ .vmem, ⟨8, _⟩ => ⟨S256x3072, .bf16⟩
  | .local _ .vmem, ⟨9, _⟩ => ⟨S3072x3072, .fp8e4m3⟩
  | .local _ .vmem, ⟨10, _⟩ => ⟨S256x3072, .bf16⟩
  | .local _ .vmem, ⟨11, _⟩ => ⟨S256x3072, .bf16⟩
  | .local _ .vmem, ⟨12, _⟩ => ⟨S256x3072, .fp8e4m3⟩
  | .local _ .vmem, ⟨13, _⟩ => ⟨S256x3072, .fp8e4m3⟩
  | .local _ .smem, ⟨0, _⟩ => ⟨S1, .f32⟩
  | .local _ .smem, ⟨1, _⟩ => ⟨S1, .f32⟩
  | _, _ => ⟨S4x1536x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_c_6 : Ref sig .tc := ⟨.hbm, 29, rfl⟩
abbrev main_call0_v0 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_c_8 : Ref sig .tc := ⟨.hbm, 34, rfl⟩
abbrev main_v20 : Ref sig .tc := ⟨.hbm, 35, rfl⟩
abbrev main_c_9 : Ref sig .tc := ⟨.hbm, 36, rfl⟩
abbrev main_v21 : Ref sig .tc := ⟨.hbm, 37, rfl⟩
abbrev main_c_10 : Ref sig .tc := ⟨.hbm, 38, rfl⟩
abbrev main_c_11 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v22 : Ref sig .tc := ⟨.hbm, 43, rfl⟩
abbrev main_c_12 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_13 : Ref sig .tc := ⟨.hbm, 48, rfl⟩
abbrev main_v26 : Ref sig .tc := ⟨.hbm, 49, rfl⟩
abbrev main_c_14 : Ref sig .tc := ⟨.hbm, 50, rfl⟩
abbrev main_c_15 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v27 : Ref sig .tc := ⟨.hbm, 55, rfl⟩
abbrev main_c_16 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33_0 : Ref sig .tc := ⟨.hbm, 62, rfl⟩
abbrev main_v33_1 : Ref sig .tc := ⟨.hbm, 63, rfl⟩
abbrev main_v34 : Ref sig .tc := ⟨.hbm, 64, rfl⟩
abbrev main_v35 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![24], ![false]⟩

def k0_off1 (c0_i32_1 : BitVec 32) : Fin 2 → Nat :=
  let c16_i32 : BitVec 32 := 16#32
  let v4 : BitVec 32 := Scalar.muli c0_i32_1 c16_i32
  let v5 : Index := Scalar.indexCast v4
  let c0 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![24], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x3072 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x3072 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S3072x3072 .fp8e4m3 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x3072 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x3072 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S4x1536x6144 : Shape := ⟨3, ![4, 1536, 6144]⟩
abbrev S3072x3072 : Shape := ⟨2, ![3072, 3072]⟩
abbrev S_ : Shape := ⟨0, ![]⟩
abbrev S6144x6144 : Shape := ⟨2, ![6144, 6144]⟩
abbrev S6144x3072 : Shape := ⟨2, ![6144, 3072]⟩
abbrev S254 : Shape := ⟨1, ![254]⟩
abbrev S1x1 : Shape := ⟨2, ![1, 1]⟩
abbrev S4x1536x3072 : Shape := ⟨3, ![4, 1536, 3072]⟩

abbrev nBuf : Space → Nat
  | .hbm => 96
  | .vmem => 6
  | .smem => 0
  | _ => 0

abbrev bufTy : (tb : Table) → Fin (tcTables nBuf tb) → BufTy
  | .hbm, ⟨0, _⟩ => ⟨S4x1536x6144, .bf16⟩
  | .hbm, ⟨1, _⟩ => ⟨S3072x3072, .fp8e4m3⟩
  | .hbm, ⟨2, _⟩ => ⟨S_, .f32⟩
  | .hbm, ⟨3, _⟩ => ⟨S6144x6144, .bf16⟩
  | .hbm, ⟨4, _⟩ => ⟨S6144x3072, .bf16⟩
  | .hbm, ⟨5, _⟩ => ⟨S6144x3072, .f32⟩
  | .hbm, ⟨6, _⟩ => ⟨S6144x3072, .bf16⟩
  | .hbm, ⟨7, _⟩ => ⟨S6144x3072, .f32⟩
  | .hbm, ⟨8, _⟩ => ⟨S6144x3072, .f32⟩
  | .hbm, ⟨9, _⟩ => ⟨S6144x3072, .f32⟩
  | .hbm, ⟨10, _⟩ => ⟨S_, .f32⟩
  | .hbm, ⟨11, _⟩ => ⟨S6144x3072, .f32⟩
  | .hbm, ⟨12, _⟩ => ⟨S6144x3072, .f32⟩
  | .hbm, ⟨13, _⟩ => ⟨S_, .f32⟩
  | .hbm, ⟨14, _⟩ => ⟨S6144x3072, .f32⟩
  | .hbm, ⟨15, _⟩ => ⟨S6144x3072, .f32⟩
  | .hbm, ⟨16, _⟩ => ⟨S6144x3072, .f32⟩
  | .hbm, ⟨17, _⟩ => ⟨S6144x3072, .f32⟩
  | .hbm, ⟨18, _⟩ => ⟨S6144x3072, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S254, .i32⟩
  | .hbm, ⟨24, _⟩ => ⟨S_, .i32⟩
  | .hbm, ⟨25, _⟩ => ⟨S254, .i32⟩
  | .hbm, ⟨26, _⟩ => ⟨S254, .i32⟩
  | .hbm, ⟨27, _⟩ => ⟨S254, .f32⟩
  | .hbm, ⟨28, _⟩ => ⟨S_, .f32⟩
  | .hbm, ⟨29, _⟩ => ⟨S254, .f32⟩
  | .hbm, ⟨30, _⟩ => ⟨S254, .f32⟩
  | .hbm, ⟨31, _⟩ => ⟨S_, .i32⟩
  | .hbm, ⟨32, _⟩ => ⟨S254, .i32⟩
  | .hbm, ⟨33, _⟩ => ⟨S254, .i1⟩
  | .hbm, ⟨34, _⟩ => ⟨S_, .i32⟩
  | .hbm, ⟨35, _⟩ => ⟨S254, .i32⟩
  | .hbm, ⟨36, _⟩ => ⟨S254, .i1⟩
  | .hbm, ⟨37, _⟩ => ⟨S_, .f32⟩
  | .hbm, ⟨38, _⟩ => ⟨S254, .f32⟩
  | .hbm, ⟨39, _⟩ => ⟨S254, .f32⟩
  | .hbm, ⟨40, _⟩ => ⟨S_, .f32⟩
  | .hbm, ⟨41, _⟩ => ⟨S254, .f32⟩
  | .hbm, ⟨42, _⟩ => ⟨S254, .f32⟩
  | .hbm, ⟨43, _⟩ => ⟨S254, .f32⟩
  | .hbm, ⟨44, _⟩ => ⟨S254, .i1⟩
  | .hbm, ⟨45, _⟩ => ⟨S_, .i32⟩
  | .hbm, ⟨46, _⟩ => ⟨S254, .i32⟩
  | .hbm, ⟨47, _⟩ => ⟨S254, .i32⟩
  | .hbm, ⟨48, _⟩ => ⟨S_, .i32⟩
  | .hbm, ⟨49, _⟩ => ⟨S_, .i32⟩
  | .hbm, ⟨50, _⟩ => ⟨S254, .i32⟩
  | .hbm, ⟨51, _⟩ => ⟨S254, .i32⟩
  | .hbm, ⟨52, _⟩ => ⟨S_, .i32⟩
  | .hbm, ⟨53, _⟩ => ⟨S_, .i32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .i1⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .f32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i1⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .i32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S1x1, .f32⟩
  | .hbm, ⟨90, _⟩ => ⟨S_, .f32⟩
  | .hbm, ⟨91, _⟩ => ⟨S1x1, .f32⟩
  | .hbm, ⟨92, _⟩ => ⟨S6144x3072, .bf16⟩
  | .hbm, ⟨93, _⟩ => ⟨S6144x3072, .fp8e4m3⟩
  | .hbm, ⟨94, _⟩ => ⟨S4x1536x3072, .bf16⟩
  | .hbm, ⟨95, _⟩ => ⟨S4x1536x3072, .fp8e4m3⟩
  | .local _ .vmem, ⟨0, _⟩ => ⟨S6144x3072, .f32⟩
  | .local _ .vmem, ⟨1, _⟩ => ⟨S1x1, .f32⟩
  | .local _ .vmem, ⟨2, _⟩ => ⟨S1x1, .f32⟩
  | .local _ .vmem, ⟨3, _⟩ => ⟨S3072x3072, .fp8e4m3⟩
  | .local _ .vmem, ⟨4, _⟩ => ⟨S6144x3072, .bf16⟩
  | .local _ .vmem, ⟨5, _⟩ => ⟨S6144x3072, .fp8e4m3⟩
  | _, _ => ⟨S4x1536x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_call1_v0 : Ref sig .tc := ⟨.hbm, 38, rfl⟩
abbrev main_v20 : Ref sig .tc := ⟨.hbm, 39, rfl⟩
abbrev main_cst_5 : Ref sig .tc := ⟨.hbm, 40, rfl⟩
abbrev main_call2_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_c_7 : Ref sig .tc := ⟨.hbm, 48, rfl⟩
abbrev main_call3_v0 : Ref sig .tc := ⟨.hbm, 49, rfl⟩
abbrev main_call3_v1 : Ref sig .tc := ⟨.hbm, 50, rfl⟩
abbrev main_v26 : Ref sig .tc := ⟨.hbm, 51, rfl⟩
abbrev main_c_8 : Ref sig .tc := ⟨.hbm, 52, rfl⟩
abbrev main_v27 : Ref sig .tc := ⟨.hbm, 53, rfl⟩
abbrev main_cst_9 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_c_11 : Ref sig .tc := ⟨.hbm, 59, rfl⟩
abbrev main_call4_v0 : Ref sig .tc := ⟨.hbm, 60, rfl⟩
abbrev main_v31 : Ref sig .tc := ⟨.hbm, 61, rfl⟩
abbrev main_cst_12 : Ref sig .tc := ⟨.hbm, 62, rfl⟩
abbrev main_v32 : Ref sig .tc := ⟨.hbm, 63, rfl⟩
abbrev main_c_13 : Ref sig .tc := ⟨.hbm, 64, rfl⟩
abbrev main_v33 : Ref sig .tc := ⟨.hbm, 65, rfl⟩
abbrev main_v34 : Ref sig .tc := ⟨.hbm, 66, rfl⟩
abbrev main_cst_14 : Ref sig .tc := ⟨.hbm, 67, rfl⟩
abbrev main_v35 : Ref sig .tc := ⟨.hbm, 68, rfl⟩
abbrev main_c_15 : Ref sig .tc := ⟨.hbm, 69, rfl⟩
abbrev main_v36 : Ref sig .tc := ⟨.hbm, 70, rfl⟩
abbrev main_c_16 : Ref sig .tc := ⟨.hbm, 71, rfl⟩
abbrev main_v37 : Ref sig .tc := ⟨.hbm, 72, rfl⟩
abbrev main_cst_17 : Ref sig .tc := ⟨.hbm, 73, rfl⟩
abbrev main_v38 : Ref sig .tc := ⟨.hbm, 74, rfl⟩
abbrev main_cst_18 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_19 : Ref sig .tc := ⟨.hbm, 79, rfl⟩
abbrev main_v42 : Ref sig .tc := ⟨.hbm, 80, rfl⟩
abbrev main_c_20 : Ref sig .tc := ⟨.hbm, 81, rfl⟩
abbrev main_v43 : Ref sig .tc := ⟨.hbm, 82, rfl⟩
abbrev main_c_21 : Ref sig .tc := ⟨.hbm, 83, rfl⟩
abbrev main_v44 : Ref sig .tc := ⟨.hbm, 84, rfl⟩
abbrev main_cst_22 : Ref sig .tc := ⟨.hbm, 85, rfl⟩
abbrev main_v45 : Ref sig .tc := ⟨.hbm, 86, rfl⟩
abbrev main_cst_23 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50_0 : Ref sig .tc := ⟨.hbm, 92, rfl⟩
abbrev main_v50_1 : Ref sig .tc := ⟨.hbm, 93, rfl⟩
abbrev main_v51 : Ref sig .tc := ⟨.hbm, 94, rfl⟩
abbrev main_v52 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Value.KAmax.lean ====
/- Region 0 of the idealized kernel, `amax`: what one grid point leaves in the [8,128] tile of running maxima. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Value

open Cert.KernelIdeal Cert.KernelIdeal.Gen
open Idealize.ShloMosaic Idealize.ShloMosaic.TcCoe Idealize.ShloMosaic.Tactic

variable {F : FTy → Type} [FloatOps F]

/-- The offsets of a whole array are zero. -/
theorem hz : (![0, 0] : Fin 2 → Nat) = fun _ => 0 := funext fun a => by fin_cases a <;> rfl

/-- Sixteen rows from row `16 r` lie within the block. -/
theorem rows_inb (r : Fin 16) : ∀ a, (![16 * r.val, 0] : Fin 2 → Nat) a + S16x3072.size a ≤ S256x3072.size a := by
  revert r; decide

/-- Row group `r` (sixteen rows) of a 256-row block. -/
abbrev rows (r : Fin 16) (x : Vec F S256x3072 .bf16) : Vec F S16x3072 .bf16 :=
  View.ld x (Rect.unit (s := S256x3072) (![16 * r.val, 0]) S16x3072.size (rows_inb r))

/-- The absolute value of the gated product of sixteen rows. -/
abbrev absProd (g u : Vec F S16x3072 .bf16) : FVec F S16x3072 .f32 :=
  absf (mulf (mulf (extf .f32 g bitsLt_bf16_f32) (logistic (extf .f32 g bitsLt_bf16_f32))) (extf .f32 u bitsLt_bf16_f32))

/-- One step of the body's loop: the tile of running maxima `acc` against the maxima of sixteen rows. -/
def step (acc : FVec F S8x128 .f32) (g u : Vec F S16x3072 .bf16) : FVec F S8x128 .f32 :=
  maximumf acc (multiReduction .maximumf [0, 2] S8x128
    (shapeCast S2x8x24x128 (absProd g u) shapeCasts_S16x3072_S2x8x24x128)
    0xFF800000#32 reduces_S2x8x24x128_S8x128 (.inl rfl) rfl)

/-- The zero tile. -/
abbrev zeroTile : FVec F S8x128 .f32 := broadcast S8x128 (Scalar.ofBits .f32 0x00000000#32)

/-- The loop of one grid point: the zero tile carried through the sixteen row groups of the blocks `g` and `u`. -/
def tileOf (g u : Vec F S256x3072 .bf16) : FVec F S8x128 .f32 :=
  step (step (step (step (step (step (step (step (step (step (step (step (step (step (step (step zeroTile
    (rows 0 g) (rows 0 u)) (rows 1 g) (rows 1 u)) (rows 2 g) (rows 2 u)) (rows 3 g) (rows 3 u))
    (rows 4 g) (rows 4 u)) (rows 5 g) (rows 5 u)) (rows 6 g) (rows 6 u)) (rows 7 g) (rows 7 u))
    (rows 8 g) (rows 8 u)) (rows 9 g) (rows 9 u)) (rows 10 g) (rows 10 u)) (rows 11 g) (rows 11 u))
    (rows 12 g) (rows 12 u)) (rows 13 g) (rows 13 u)) (rows 14 g) (rows 14 u)) (rows 15 g) (rows 15 u)

/-- The payloads of the region's stores and carried tiles are runs of `step` over the sixteen row groups, in their order. -/
theorem pay2_eq (a b c d : Vec F S16x3072 .bf16) : k0_pay2 a b c d = step (step zeroTile a b) c d := by
  unfold k0_pay2 step; simp only [shapeCast_self]

/-- A row group passed on is itself. -/
theorem pay3_eq (a : Vec F S16x3072 .bf16) : k0_pay3 a = a := by
  unfold k0_pay3; simp only [shapeCast_self]

/-- The tile after three more row groups. -/
theorem pay4_eq (t : FVec F S8x128 .f32) (a b c d e f : Vec F S16x3072 .bf16) :
    k0_pay4 t a b c d e f = step (step (step t a b) c d) e f := by
  unfold k0_pay4 step; simp only [shapeCast_self]

/-- The tile after three more row groups. -/
theorem pay5_eq (t : FVec F S8x128 .f32) (a b c d e f : Vec F S16x3072 .bf16) :
    k0_pay5 t a b c d e f = step (step (step t a b) c d) e f := by
  unfold k0_pay5 step; simp only [shapeCast_self]

/-- The tile after three more row groups. -/
theorem pay6_eq (t : FVec F S8x128 .f32) (a b c d e f : Vec F S16x3072 .bf16) :
    k0_pay6 t a b c d e f = step (step (step t a b) c d) e f := by
  unfold k0_pay6 step; simp only [shapeCast_self]

/-- The tile after two more row groups. -/
theorem pay7_eq (t : FVec F S8x128 .f32) (a b c d : Vec F S16x3072 .bf16) :
    k0_pay7 t a b c d = step (step t a b) c d := by
  unfold k0_pay7 step; simp only [shapeCast_self]

/-- The last row groups, and the maximum with the tile already there. -/
theorem pay9_eq (t xo : FVec F S8x128 .f32) (a b c d e f : Vec F S16x3072 .bf16) :
    k0_pay9 t (k0_pay8 a b) c d e f xo = maximumf xo (step (step (step t a b) c d) e f) := by
  unfold k0_pay9 k0_pay8 step; simp only [shapeCast_self]

/-- The same loop as the body's payloads spell it. -/
def payTile (g u : Vec F S256x3072 .bf16) (xo : FVec F S8x128 .f32) : FVec F S8x128 .f32 :=
  k0_pay9 (k0_pay7 (k0_pay6 (k0_pay5 (k0_pay4 (k0_pay2 (rows 0 g) (rows 0 u) (rows 1 g) (rows 1 u)) (k0_pay3 (rows 2 g)) (rows 2 u)
    (rows 3 g) (rows 3 u) (rows 4 g) (rows 4 u)) (rows 5 g) (rows 5 u) (rows 6 g) (rows 6 u) (rows 7 g) (rows 7 u))
    (rows 8 g) (rows 8 u) (rows 9 g) (rows 9 u) (rows 10 g) (rows 10 u)) (rows 11 g) (rows 11 u) (rows 12 g) (rows 12 u)) (k0_pay8 (rows 13 g) (rows 13 u))
    (rows 14 g) (rows 14 u) (rows 15 g) (rows 15 u) xo

/-- What a grid point stores: the maximum of the tile already there and the tile of the point's block. -/
theorem payTile_eq (g u : Vec F S256x3072 .bf16) (xo : FVec F S8x128 .f32) : payTile g u xo = maximumf xo (tileOf g u) := by
  unfold payTile tileOf
  rw [pay2_eq, pay3_eq, pay4_eq, pay5_eq, pay6_eq, pay7_eq, pay9_eq]

/-- A later point leaves the greater, entry by entry, of what it found in the tile and its own maxima. -/
theorem out0_B (c : Dev nD) (i : grid0.Coords) (a1 : Memref sig .tc .vmem S256x3072 .bf16) (h1 : a1.IsWhole)
    (a2 : Memref sig .tc .vmem S256x3072 .bf16) (h2 : a2.IsWhole) (a3 : Memref sig .tc .vmem S8x128 .f32) (h3 : a3.IsWhole)
    (hc : ¬cond0_0 i) (x0 x1 : Vec F S256x3072 .bf16) (xo : Vec F S8x128 .f32) :
    out0_B_2 c i a1 h1 a2 h2 a3 h3 hc x0 x1 xo = maximumf xo (tileOf x0 x1) := by
  unfold out0_B_2
  rw [View.read_writes_eq_canon _ _ _ (cover0_B_2 c i a1 h1 a2 h2 a3 h3 hc x0 x1 xo)]
  unfold kernelRun0_B
  dsimp only
  rw [View.canon_unit_zero hz]
  show payTile (a1.view.read (Elt F) (h1.unread x0)) (a2.view.read (Elt F) (h2.unread x1))
    (View.ld (a3.view.read (Elt F) (h3.unread xo)) (Rect.unit (s := S8x128) ![0, 0] S8x128.size inb_S8x128_S8x128_0_0)) = _
  rw [h1.read_unread, h2.read_unread, h3.read_unread, View.ld_unit_zero (S := S8x128) hz, payTile_eq]

/-- The first point resets the tile to zero first. -/
theorem out0_A (c : Dev nD) (i : grid0.Coords) (a1 : Memref sig .tc .vmem S256x3072 .bf16) (h1 : a1.IsWhole)
    (a2 : Memref sig .tc .vmem S256x3072 .bf16) (h2 : a2.IsWhole) (a3 : Memref sig .tc .vmem S8x128 .f32) (h3 : a3.IsWhole)
    (hc : cond0_0 i) (x0 x1 : Vec F S256x3072 .bf16) :
    out0_A_2 c i a1 h1 a2 h2 a3 h3 hc x0 x1 = maximumf zeroTile (tileOf x0 x1) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S8x128) hz, View.readCov_unit_zero (S := S8x128) _ hz]
  show payTile (a1.view.read (Elt F) (h1.unread x0)) (a2.view.read (Elt F) (h2.unread x1)) zeroTile = _
  rw [h1.read_unread, h2.read_unread, payTile_eq]

end Cert.KernelIdeal.Value

end
-- ==== Proof.Value.Order.lean ====
/- The order of the extended reals under the reductions both programs use: the bounds of a running maximum. -/
module

public import proofs.«01_k».proof.Proof.Value.KAmax
public import Idealize.ShloMosaic.PureOps.Ideal.Laws

@[expose] public section

set_option maxRecDepth 16384

noncomputable section

namespace Cert.Value

open Idealize.ShloMosaic

/-- The gated product of one gate entry and one up entry. -/
def prod (a b : EReal) : EReal := a * Ideal.logistic a * b

/-- Its absolute value. -/
def absProd (a b : EReal) : EReal := max (prod a b) (-prod a b)

/-- An absolute value is not negative. -/
theorem absProd_nonneg (a b : EReal) : 0 ≤ absProd a b := by
  unfold absProd
  rcases le_total 0 (prod a b) with h | h
  · exact le_max_of_le_left h
  · exact le_max_of_le_right (by simpa using h)

/-- The word of minus infinity is the bottom of the extended reals. -/
theorem ofBits_bot : Ideal.ofBits .f32 0xFF800000#32 = ⊥ := by simp [Ideal.ofBits, Ideal.ieee]

/-- A running maximum lies below `x` exactly when its start and every element do. -/
theorem fold_le {ι : Type*} (s : Finset ι) (f : ι → EReal) (b x : EReal) :
    s.fold (FloatOps.maximumf (F := Ideal) (φ := .f32)) b f ≤ x ↔ b ≤ x ∧ ∀ i ∈ s, f i ≤ x :=
  Finset.fold_max_le x

end Cert.Value

namespace Cert.KernelIdeal.Value

open Cert.KernelIdeal Cert.KernelIdeal.Gen
open Idealize.ShloMosaic Idealize.ShloMosaic.TcCoe Idealize.ShloMosaic.Tactic

/-- One step's tile lies below `x` exactly when the tile before and the absolute products of the sixteen rows do. -/
theorem step_le (acc : FVec Ideal S8x128 .f32) (g u : Vec Ideal S16x3072 .bf16) (x : EReal) :
    (∀ j, step acc g u j ≤ x) ↔ (∀ j, acc j ≤ x) ∧ ∀ k, Cert.Value.absProd (g k) (u k) ≤ x := by
  have key : ∀ j, step acc g u j ≤ x ↔ acc j ≤ x ∧ ∀ k, reduces_S2x8x24x128_S8x128.drop k = j →
      shapeCast S2x8x24x128 (absProd (F := Ideal) g u) shapeCasts_S16x3072_S2x8x24x128 k ≤ x := by
    intro j
    refine (max_le_iff (a := acc j)).trans (and_congr_right fun _ => ?_)
    refine (iff_of_eq (congrArg (· ≤ x) (multiReduction_maximumf_eq_fold (F := Ideal) _ _ _ _ _ j))).trans ?_
    refine (Cert.Value.fold_le _ _ _ _).trans ?_
    rw [show FloatOps.ofBits (F := Ideal) .f32 0xFF800000#32 = ⊥ from Cert.Value.ofBits_bot]
    simp
  constructor
  · intro h
    refine ⟨fun j => ((key j).mp (h j)).1, fun k => ?_⟩
    have := ((key _).mp (h _)).2 ((Shape.reshapeEquiv shapeCasts_S16x3072_S2x8x24x128).symm k) rfl
    unfold shapeCast at this
    rw [Equiv.apply_symm_apply] at this
    exact this
  · intro h j
    exact (key j).mpr ⟨h.1 j, fun k _ => h.2 _⟩

/-- Row `k` of group `r` is row `16 r + k` of the block. -/
theorem rows_apply (r : Fin 16) (x : Vec Ideal S256x3072 .bf16) (k : S16x3072.Idx) (i : S256x3072.Idx)
    (h0 : (i 0).val = 16 * r.val + (k 0).val) (h1 : (i 1).val = (k 1).val) : rows r x k = x i := by
  show x _ = x i
  congr 1
  funext a
  apply Fin.ext
  match a with
  | ⟨0, _⟩ => show 16 * r.val + 1 * (k 0).val = (i 0).val; omega
  | ⟨1, _⟩ => show 0 + 1 * (k 1).val = (i 1).val; omega

/-- The sixteen row groups are the whole block. -/
theorem forall_rows (P : EReal → EReal → Prop) (g u : Vec Ideal S256x3072 .bf16) :
    (∀ r : Fin 16, ∀ k, P (rows r g k) (rows r u k)) ↔ ∀ i, P (g i) (u i) := by
  constructor
  · intro h i
    have hi0 : (i 0).val < 256 := (i 0).isLt
    have hi1 : (i 1).val < 3072 := (i 1).isLt
    have := h ⟨(i 0).val / 16, by omega⟩ (fun a => match a with
      | ⟨0, _⟩ => ⟨(i 0).val % 16, Nat.mod_lt _ (by decide)⟩
      | ⟨1, _⟩ => ⟨(i 1).val, hi1⟩)
    rw [rows_apply _ _ _ i (by show (i 0).val = 16 * ((i 0).val / 16) + (i 0).val % 16; omega) rfl,
      rows_apply _ _ _ i (by show (i 0).val = 16 * ((i 0).val / 16) + (i 0).val % 16; omega) rfl] at this
    exact this
  · intro h r k
    have hk : (k 0).val < 16 := (k 0).isLt
    have hr := r.isLt
    have e := rows_apply r g k (fun a => match a with
      | ⟨0, _⟩ => ⟨16 * r.val + (k 0).val, by show _ < 256; omega⟩
      | ⟨1, _⟩ => ⟨(k 1).val, (k 1).isLt⟩) rfl rfl
    have e' := rows_apply r u k (fun a => match a with
      | ⟨0, _⟩ => ⟨16 * r.val + (k 0).val, by show _ < 256; omega⟩
      | ⟨1, _⟩ => ⟨(k 1).val, (k 1).isLt⟩) rfl rfl
    rw [e, e']
    exact h _

/-- One grid point's tile lies below `x` exactly when zero and every absolute product of its block do. -/
theorem tileOf_le (g u : Vec Ideal S256x3072 .bf16) (x : EReal) :
    (∀ j, tileOf g u j ≤ x) ↔ 0 ≤ x ∧ ∀ i, Cert.Value.absProd (g i) (u i) ≤ x := by
  have hz : (∀ j, zeroTile (F := Ideal) j ≤ x) ↔ 0 ≤ x := by
    have e : ∀ j, zeroTile (F := Ideal) j = 0 := fun j => Ideal.ofBits_zero_f32
    simp only [e]
    exact ⟨fun h => h (fun a => match a with | ⟨0, _⟩ => (⟨0, by decide⟩ : Fin 8) | ⟨1, _⟩ => (⟨0, by decide⟩ : Fin 128)), fun h _ => h⟩
  rw [← forall_rows (fun a b => Cert.Value.absProd a b ≤ x)]
  unfold tileOf
  simp only [step_le, hz, and_assoc]
  refine and_congr_right fun _ => ?_
  constructor
  · rintro ⟨h0, h1, h2, h3, h4, h5, h6, h7, h8, h9, h10, h11, h12, h13, h14, h15⟩ r
    fin_cases r
    exacts [h0, h1, h2, h3, h4, h5, h6, h7, h8, h9, h10, h11, h12, h13, h14, h15]
  · intro h
    exact ⟨h 0, h 1, h 2, h 3, h 4, h 5, h 6, h 7, h 8, h 9, h 10, h 11, h 12, h 13, h 14, h 15⟩

end Cert.KernelIdeal.Value

end
-- ==== Proof.Value.Region0.lean ====
/- Region 0 of the idealized kernel over its whole grid: the tile of running maxima it leaves in its result array, at the
   array contents `V` it is entered with, and the bounds of that tile. -/
module

public import proofs.«01_k».proof.Proof.Value.Order

@[expose] public section

set_option maxRecDepth 16384

noncomputable section

namespace Cert.Value

open Idealize.ShloMosaic

/-- The rows of tokens, gate half and up half side by side; the gated product's shape. -/
abbrev SH : Shape := ⟨2, ![6144, 6144]⟩
abbrev SP : Shape := ⟨2, ![6144, 3072]⟩

/-- Where the gate entry of product entry `i` lies, and its up entry, 3072 columns further. -/
def gateIdx (i : SP.Idx) : SH.Idx := fun a => match a with
  | ⟨0, _⟩ => (⟨(i 0).val, (i 0).isLt⟩ : Fin 6144)
  | ⟨1, _⟩ => (⟨(i 1).val, Nat.lt_of_lt_of_le (i 1).isLt (by decide)⟩ : Fin 6144)
def upIdx (i : SP.Idx) : SH.Idx := fun a => match a with
  | ⟨0, _⟩ => (⟨(i 0).val, (i 0).isLt⟩ : Fin 6144)
  | ⟨1, _⟩ => (⟨3072 + (i 1).val, Nat.lt_of_lt_of_le (Nat.add_lt_add_left (i 1).isLt 3072) (by decide)⟩ : Fin 6144)

/-- Every absolute product of the rows `h` lies below `x`. -/
def Bounded (h : SH.Idx → EReal) (x : EReal) : Prop := ∀ i : SP.Idx, absProd (h (gateIdx i)) (h (upIdx i)) ≤ x

end Cert.Value

namespace Cert.KernelIdeal.Value

open Cert.KernelIdeal Cert.KernelIdeal.Gen
open Idealize.ShloMosaic Idealize.ShloMosaic.TcCoe Idealize.ShloMosaic.Tactic
open Idealize.ShloMosaic.Pipeline (Dat)

section AnyF

variable {F : FTy → Type} [FloatOps F]
variable (V : (c : Dev nD) → (b : Ref sig .tc) → Buf (Elt F) ((c : Thread nD τ).loc b))

/-- Which blocks the windows are at, point by point. -/
theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = t.val ∧ win0_1.index t 1 = 1 :=
  (by decide +kernel : ∀ t : Fin grid0.N, win0_1.index t 0 = t.val ∧ win0_1.index t 1 = 1)
theorem index0_2 : ∀ t : Fin cfg0.N, win0_2.index t 0 = 0 ∧ win0_2.index t 1 = 0 :=
  (by decide +kernel : ∀ t : Fin grid0.N, win0_2.index t 0 = 0 ∧ win0_2.index t 1 = 0)

/-- The gate block of point `t`: 256 rows of the left half. -/
theorem iblk0_0_apply (c : Dev nD) (t : Fin cfg0.N) (k : S256x3072.Idx) (i : Cert.Value.SH.Idx)
    (h0 : (i 0).val = 256 * t.val + (k 0).val) (h1 : (i 1).val = (k 1).val) : iblk0 V c 0 t k = V c main_v0 i := by
  unfold iblk0
  rw [View.read_apply]
  show V c main_v0 _ = V c main_v0 _
  congr 1
  funext a
  apply Fin.ext
  match a with
  | ⟨0, _⟩ => show win0_0.index t 0 * 256 + 1 * (k 0).val = (i 0).val; rw [(index0_0 t).1]; omega
  | ⟨1, _⟩ => show win0_0.index t 1 * 3072 + 1 * (k 1).val = (i 1).val; rw [(index0_0 t).2]; omega

/-- The up block of point `t`: the same rows of the right half. -/
theorem iblk0_1_apply (c : Dev nD) (t : Fin cfg0.N) (k : S256x3072.Idx) (i : Cert.Value.SH.Idx)
    (h0 : (i 0).val = 256 * t.val + (k 0).val) (h1 : (i 1).val = 3072 + (k 1).val) : iblk0 V c 1 t k = V c main_v0 i := by
  unfold iblk0
  rw [View.read_apply]
  show V c main_v0 _ = V c main_v0 _
  congr 1
  funext a
  apply Fin.ext
  match a with
  | ⟨0, _⟩ => show win0_1.index t 0 * 256 + 1 * (k 0).val = (i 0).val; rw [(index0_1 t).1]; omega
  | ⟨1, _⟩ => show win0_1.index t 1 * 3072 + 1 * (k 1).val = (i 1).val; rw [(index0_1 t).2]; omega

/-- The grid has a point 23, its last. -/
theorem lt23 : 23 < cfg0.N := by rw [show cfg0.N = 24 from N_0]; decide

/-- The tile after the last point. -/
abbrev tile (c : Dev nD) : Vec F S8x128 .f32 := outsAt0 V c 23 lt23

/-- The one write-back, at the last point, writes it. -/
theorem flushed0 (c : Dev nD) (t : Fin cfg0.N) (hf : (cfg0.win 2).flush t = true) :
    (dat0 V c).flushed 2 t = ((cfg0.win 2).blk t).view.read (Elt F) (tile V c) := by
  have hN : cfg0.N = 24 := N_0
  have h3 : t.val = 23 := by have := (flush0_2 t).mp hf; have := t.isLt; omega
  show (cfg0.win 2).cut (grid0.coords t) ((dat0 V c).after 2 t) = _
  have e : outsAt0 V c t.val t.isLt = tile V c := by unfold tile; congr 1
  rw [after0_2, e]
  have hz' : (fun a => win0_2.index t a * main_v1.ty.shape.size a) = fun _ => 0 := funext fun a => by
    match a with
    | ⟨0, _⟩ => show win0_2.index t 0 * _ = 0; rw [(index0_2 t).1]; exact Nat.zero_mul _
    | ⟨1, _⟩ => show win0_2.index t 1 * _ = 0; rw [(index0_2 t).2]; exact Nat.zero_mul _
  exact (Memref.read_access_unit_zero (Elt F) main_v1 hz' (fun a => by rw [congrFun hz' a]; simp) (tile V c)).symm

/-- So the result array ends holding the tile after the last point. -/
theorem final0 (c : Dev nD) : (dat0 V c).arrAt 2 cfg0.N = tile V c :=
  (dat0 V c).arrAt_eq_of_cover 2 (tile V c) (flushed0 V c) fun i =>
    ⟨⟨23, lt23⟩, (flush0_2 _).mpr rfl, by
      show i ∈ ((View.whole main_v1).slice (win0_2.rect ⟨23, lt23⟩)).set
      rw [View.set_slice_whole, Rect.mem_set_unit]
      intro a
      have h0 : (i 0 : Nat) < 8 := (i 0).isLt
      have h1 : (i 1 : Nat) < 128 := (i 1).isLt
      match a with
      | ⟨0, _⟩ => show win0_2.index ⟨23, lt23⟩ 0 * 8 ≤ (i 0 : Nat) ∧ (i 0 : Nat) < win0_2.index ⟨23, lt23⟩ 0 * 8 + 8
                  rw [(index0_2 _).1]; omega
      | ⟨1, _⟩ => show win0_2.index ⟨23, lt23⟩ 1 * 128 ≤ (i 1 : Nat) ∧ (i 1 : Nat) < win0_2.index ⟨23, lt23⟩ 1 * 128 + 128
                  rw [(index0_2 _).2]; omega⟩

end AnyF

variable (V : (c : Dev nD) → (b : Ref sig .tc) → Buf (Elt Ideal) ((c : Thread nD τ).loc b))

/-- A maximum of two tiles lies below `x` exactly when both do. -/
theorem maximumf_tile_le (a b : FVec Ideal S8x128 .f32) (x : EReal) :
    (∀ j, maximumf a b j ≤ x) ↔ (∀ j, a j ≤ x) ∧ ∀ j, b j ≤ x :=
  ⟨fun h => ⟨fun j => (max_le_iff.mp (h j)).1, fun j => (max_le_iff.mp (h j)).2⟩, fun h j => max_le (h.1 j) (h.2 j)⟩

/-- The absolute products of point `t`'s blocks. -/
abbrev blkLe (c : Dev nD) (t : Fin cfg0.N) (x : EReal) : Prop :=
  ∀ i : S256x3072.Idx, Cert.Value.absProd (iblk0 V c 0 t i) (iblk0 V c 1 t i) ≤ x

/-- The tile after point `n` lies below `x` exactly when zero and the absolute products of the points up to `n` do. -/
theorem outs_le (c : Dev nD) (x : EReal) : ∀ (n : ℕ) (h : n < cfg0.N),
    (∀ j, outsAt0 V c n h j ≤ x) ↔ 0 ≤ x ∧ ∀ t : Fin cfg0.N, t.val ≤ n → blkLe V c t x
  | 0, h => by
    rw [show outsAt0 V c 0 h = maximumf zeroTile (tileOf (iblk0 V c 0 ⟨0, h⟩) (iblk0 V c 1 ⟨0, h⟩)) from
      (outsAt0_A V c ⟨0, h⟩ rfl).trans (out0_A ..), maximumf_tile_le, tileOf_le]
    constructor
    · rintro ⟨-, h0, hb⟩
      refine ⟨h0, fun t ht => ?_⟩
      obtain rfl : t = ⟨0, h⟩ := Fin.ext (Nat.le_zero.mp ht)
      exact hb
    · rintro ⟨h0, hb⟩
      exact ⟨fun j => le_of_eq_of_le Ideal.ofBits_zero_f32 h0, h0, hb ⟨0, h⟩ le_rfl⟩
  | n + 1, h => by
    have hN : cfg0.N = 24 := N_0
    have hB : ¬(⟨n + 1, h⟩ : Fin cfg0.N).val % 24 = 0 := by dsimp only; omega
    rw [show outsAt0 V c (n + 1) h = maximumf (outsAt0 V c n (Nat.lt_of_succ_lt h))
        (tileOf (iblk0 V c 0 ⟨n + 1, h⟩) (iblk0 V c 1 ⟨n + 1, h⟩)) from
      (outsAt0_B V c ⟨n + 1, h⟩ hB).trans (out0_B ..), maximumf_tile_le, tileOf_le, outs_le c x n]
    constructor
    · rintro ⟨⟨h0, hp⟩, -, hb⟩
      refine ⟨h0, fun t ht => ?_⟩
      rcases Nat.lt_or_ge t.val (n + 1) with hlt | hge
      · exact hp t (Nat.lt_succ_iff.mp hlt)
      · obtain rfl : t = ⟨n + 1, h⟩ := Fin.ext (Nat.le_antisymm ht hge)
        exact hb
    · rintro ⟨h0, hb⟩
      exact ⟨⟨h0, fun t ht => hb t (Nat.le_succ_of_le ht)⟩, h0, hb ⟨n + 1, h⟩ le_rfl⟩

/-- The final tile lies below `x` exactly when zero and every absolute product of the rows do. -/
theorem tile_le (c : Dev nD) (x : EReal) : (∀ j, tile V c j ≤ x) ↔ 0 ≤ x ∧ Cert.Value.Bounded (V c main_v0) x := by
  have hN : cfg0.N = 24 := N_0
  unfold tile
  rw [outs_le]
  refine and_congr_right fun _ => ?_
  constructor
  · intro h i
    have hi0 : (i 0).val < 6144 := (i 0).isLt
    have hi1 : (i 1).val < 3072 := (i 1).isLt
    have := h ⟨(i 0).val / 256, by omega⟩ (by dsimp only; omega) (fun a => match a with
      | ⟨0, _⟩ => (⟨(i 0).val % 256, Nat.mod_lt _ (by decide)⟩ : Fin 256)
      | ⟨1, _⟩ => (⟨(i 1).val, hi1⟩ : Fin 3072))
    rw [iblk0_0_apply V c _ _ (Cert.Value.gateIdx i) (by show (i 0).val = 256 * ((i 0).val / 256) + (i 0).val % 256; omega) rfl,
      iblk0_1_apply V c _ _ (Cert.Value.upIdx i) (by show (i 0).val = 256 * ((i 0).val / 256) + (i 0).val % 256; omega) rfl] at this
    exact this
  · intro h t _ k
    have hk0 : (k 0).val < 256 := (k 0).isLt
    have hk1 : (k 1).val < 3072 := (k 1).isLt
    have ht := t.isLt
    have := h (fun a => match a with
      | ⟨0, _⟩ => (⟨256 * t.val + (k 0).val, by omega⟩ : Fin 6144)
      | ⟨1, _⟩ => (⟨(k 1).val, hk1⟩ : Fin 3072))
    rw [← iblk0_0_apply V c t k _ rfl rfl, ← iblk0_1_apply V c t k _ rfl rfl] at this
    exact this

end Cert.KernelIdeal.Value

end
-- ==== Proof.Value.Region1.lean ====
/- Region 1 of the idealized kernel, the quantiser with the fp8 product: what its two result arrays end holding, at the
   array contents `V` it is entered with. -/
module

public import proofs.«01_k».proof.Proof.Value.Region0
public import Idealize.ShloMosaic.Lib.MatmulPlain

@[expose] public section

set_option maxRecDepth 16384

noncomputable section

namespace Cert.Value

open Idealize.ShloMosaic Idealize.ShloMosaic.ValueIdx

/-- The weight codes' shape. -/
abbrev SW : Shape := ⟨2, ![3072, 3072]⟩

/-- The codes of the rows `h` at the inverse scale `inv`: the gated product times `inv`, clipped to the fp8 range. -/
def codesOf (h : SH.Idx → EReal) (inv : EReal) : SP.Idx → EReal := fun i =>
  min (Ideal.ofBits .f32 0x43E00000#32) (max (Ideal.ofBits .f32 0xC3E00000#32) (prod (h (gateIdx i)) (h (upIdx i)) * inv))

/-- The product of codes and weight codes, times the output scale. -/
def linearOf (cd : SP.Idx → EReal) (w : SW.Idx → EReal) (s : EReal) : SP.Idx → EReal := fun i =>
  (∑ k : Fin 3072, cd (ix2 (i 0) k) * w (ix2 k (i 1))) * s

end Cert.Value

namespace Cert.KernelIdeal.Value

open Cert.KernelIdeal Cert.KernelIdeal.Gen
open Idealize.ShloMosaic Idealize.ShloMosaic.TcCoe Idealize.ShloMosaic.Tactic Idealize.ShloMosaic.ValueIdx
open Idealize.ShloMosaic.Pipeline (Dat)

section AnyF

variable {F : FTy → Type} [FloatOps F]

/-- The offset of a whole array is zero. -/
theorem hz1 : (![0] : Fin 1 → Nat) = fun _ => 0 := funext fun a => by fin_cases a; rfl

/-- One grid point's codes. -/
theorem out1_6 (c : Dev nD) (i : grid1.Coords) (a1 : Memref sig .tc .smem S1 .f32) (h1 : a1.IsWhole)
    (a2 : Memref sig .tc .smem S1 .f32) (h2 : a2.IsWhole) (a3 : Memref sig .tc .vmem S256x3072 .bf16) (h3 : a3.IsWhole)
    (a4 : Memref sig .tc .vmem S256x3072 .bf16) (h4 : a4.IsWhole) (a5 : Memref sig .tc .vmem S3072x3072 .fp8e4m3) (h5 : a5.IsWhole)
    (a6 : Memref sig .tc .vmem S256x3072 .bf16) (h6 : a6.IsWhole) (a7 : Memref sig .tc .vmem S256x3072 .fp8e4m3) (h7 : a7.IsWhole)
    (x0 x1 : Vec F S1 .f32) (x2 x3 : Vec F S256x3072 .bf16) (x4 : Vec F S3072x3072 .fp8e4m3) :
    out1_A_6 c i a1 h1 a2 h2 a3 h3 a4 h4 a5 h5 a6 h6 a7 h7 x0 x1 x2 x3 x4 = k1_pay1 x2 x3 (x0 (Shape.Idx.first (by decide))) := by
  unfold out1_A_6
  rw [View.read_writes_eq_canon _ _ _ (cover1_A_6 c i a1 h1 a2 h2 a3 h3 a4 h4 a5 h5 a6 h6 a7 h7 x0 x1 x2 x3 x4)]
  unfold kernelRun1_A
  dsimp only
  rw [View.canon_unit_zero hz]
  sl_unfold_words
  show k1_pay1 (View.ld (a3.view.read (Elt F) (h3.unread x2)) (Rect.unit (s := S256x3072) ![0, 0] S256x3072.size inb_S256x3072_S256x3072_0_0))
    (View.ld (a4.view.read (Elt F) (h4.unread x3)) (Rect.unit (s := S256x3072) ![0, 0] S256x3072.size inb_S256x3072_S256x3072_0_0))
    (View.ld (a1.view.read (Elt F) (h1.unread x0)) (Rect.unit (s := S1) ![0] S1.size inb_S1_S1_0) _) = _
  rw [h1.read_unread, h3.read_unread, h4.read_unread, View.ld_unit_zero (S := S1) hz1,
    View.ld_unit_zero (S := S256x3072) hz, View.ld_unit_zero (S := S256x3072) hz]

/-- One grid point's products. -/
theorem out1_5 (c : Dev nD) (i : grid1.Coords) (a1 : Memref sig .tc .smem S1 .f32) (h1 : a1.IsWhole)
    (a2 : Memref sig .tc .smem S1 .f32) (h2 : a2.IsWhole) (a3 : Memref sig .tc .vmem S256x3072 .bf16) (h3 : a3.IsWhole)
    (a4 : Memref sig .tc .vmem S256x3072 .bf16) (h4 : a4.IsWhole) (a5 : Memref sig .tc .vmem S3072x3072 .fp8e4m3) (h5 : a5.IsWhole)
    (a6 : Memref sig .tc .vmem S256x3072 .bf16) (h6 : a6.IsWhole) (a7 : Memref sig .tc .vmem S256x3072 .fp8e4m3) (h7 : a7.IsWhole)
    (x0 x1 : Vec F S1 .f32) (x2 x3 : Vec F S256x3072 .bf16) (x4 : Vec F S3072x3072 .fp8e4m3) :
    out1_A_5 c i a1 h1 a2 h2 a3 h3 a4 h4 a5 h5 a6 h6 a7 h7 x0 x1 x2 x3 x4 =
      k1_pay2 x2 x3 (x0 (Shape.Idx.first (by decide))) x4 (x1 (Shape.Idx.first (by decide))) := by
  unfold out1_A_5
  rw [View.read_writes_eq_canon _ _ _ (cover1_A_5 c i a1 h1 a2 h2 a3 h3 a4 h4 a5 h5 a6 h6 a7 h7 x0 x1 x2 x3 x4)]
  unfold kernelRun1_A
  dsimp only
  rw [View.canon_unit_zero hz]
  sl_unfold_words
  show k1_pay2 (View.ld (a3.view.read (Elt F) (h3.unread x2)) (Rect.unit (s := S256x3072) ![0, 0] S256x3072.size inb_S256x3072_S256x3072_0_0))
    (View.ld (a4.view.read (Elt F) (h4.unread x3)) (Rect.unit (s := S256x3072) ![0, 0] S256x3072.size inb_S256x3072_S256x3072_0_0))
    (View.ld (a1.view.read (Elt F) (h1.unread x0)) (Rect.unit (s := S1) ![0] S1.size inb_S1_S1_0) _)
    (View.ld (a5.view.read (Elt F) (h5.unread x4)) (Rect.unit (s := S3072x3072) ![0, 0] S3072x3072.size inb_S3072x3072_S3072x3072_0_0))
    (View.ld (a2.view.read (Elt F) (h2.unread x1)) (Rect.unit (s := S1) ![0] S1.size inb_S1_S1_0) _) = _
  rw [h1.read_unread, h2.read_unread, h3.read_unread, h4.read_unread, h5.read_unread, View.ld_unit_zero (S := S1) hz1,
    View.ld_unit_zero (S := S1) hz1, View.ld_unit_zero (S := S256x3072) hz, View.ld_unit_zero (S := S256x3072) hz,
    View.ld_unit_zero (S := S3072x3072) hz]

variable (V : (c : Dev nD) → (b : Ref sig .tc) → Buf (Elt F) ((c : Thread nD τ).loc b))

/-- Which blocks the windows are at, point by point. -/
theorem index1_2 : ∀ t : Fin cfg1.N, win1_2.index t 0 = t.val ∧ win1_2.index t 1 = 0 :=
  (by decide +kernel : ∀ t : Fin grid1.N, win1_2.index t 0 = t.val ∧ win1_2.index t 1 = 0)
theorem index1_3 : ∀ t : Fin cfg1.N, win1_3.index t 0 = t.val ∧ win1_3.index t 1 = 1 :=
  (by decide +kernel : ∀ t : Fin grid1.N, win1_3.index t 0 = t.val ∧ win1_3.index t 1 = 1)
theorem index1_4 : ∀ t : Fin cfg1.N, win1_4.index t 0 = 0 ∧ win1_4.index t 1 = 0 :=
  (by decide +kernel : ∀ t : Fin grid1.N, win1_4.index t 0 = 0 ∧ win1_4.index t 1 = 0)
theorem index1_5 : ∀ t : Fin cfg1.N, win1_5.index t 0 = t.val ∧ win1_5.index t 1 = 0 :=
  (by decide +kernel : ∀ t : Fin grid1.N, win1_5.index t 0 = t.val ∧ win1_5.index t 1 = 0)
theorem index1_6 : ∀ t : Fin cfg1.N, win1_6.index t 0 = t.val ∧ win1_6.index t 1 = 0 :=
  (by decide +kernel : ∀ t : Fin grid1.N, win1_6.index t 0 = t.val ∧ win1_6.index t 1 = 0)

/-- The gate block of point `t`: 256 rows of the left half. -/
theorem iblk1_2_apply (c : Dev nD) (t : Fin cfg1.N) (k : S256x3072.Idx) (i : Cert.Value.SH.Idx)
    (h0 : (i 0).val = 256 * t.val + (k 0).val) (h1 : (i 1).val = (k 1).val) : iblk1 V c 2 t k = V c main_v0 i := by
  unfold iblk1
  rw [View.read_apply]
  show V c main_v0 _ = V c main_v0 _
  congr 1
  funext a
  apply Fin.ext
  match a with
  | ⟨0, _⟩ => show win1_2.index t 0 * 256 + 1 * (k 0).val = (i 0).val; rw [(index1_2 t).1]; omega
  | ⟨1, _⟩ => show win1_2.index t 1 * 3072 + 1 * (k 1).val = (i 1).val; rw [(index1_2 t).2]; omega

/-- The up block of point `t`: 256 rows of the right half. -/
theorem iblk1_3_apply (c : Dev nD) (t : Fin cfg1.N) (k : S256x3072.Idx) (i : Cert.Value.SH.Idx)
    (h0 : (i 0).val = 256 * t.val + (k 0).val) (h1 : (i 1).val = 3072 + (k 1).val) : iblk1 V c 3 t k = V c main_v0 i := by
  unfold iblk1
  rw [View.read_apply]
  show V c main_v0 _ = V c main_v0 _
  congr 1
  funext a
  apply Fin.ext
  match a with
  | ⟨0, _⟩ => show win1_3.index t 0 * 256 + 1 * (k 0).val = (i 0).val; rw [(index1_3 t).1]; omega
  | ⟨1, _⟩ => show win1_3.index t 1 * 3072 + 1 * (k 1).val = (i 1).val; rw [(index1_3 t).2]; omega

/-- The weight codes' block is the whole array at every point. -/
theorem iblk1_4_eq (c : Dev nD) (t : Fin cfg1.N) : (iblk1 V c 4 t : Vec F S3072x3072 .fp8e4m3) = V c main_arg1 := by
  funext k
  unfold iblk1
  rw [View.read_apply]
  show V c main_arg1 _ = V c main_arg1 _
  congr 1
  funext a
  apply Fin.ext
  match a with
  | ⟨0, _⟩ => show win1_4.index t 0 * 3072 + 1 * (k 0).val = (k 0).val; rw [(index1_4 t).1]; omega
  | ⟨1, _⟩ => show win1_4.index t 1 * 3072 + 1 * (k 1).val = (k 1).val; rw [(index1_4 t).2]; omega

/-- An array of one entry has one index. -/
theorem idx_S1 (i j : S1.Idx) : i = j := by
  funext a
  apply Fin.ext
  match a with
  | ⟨0, _⟩ => have h0 : (i 0).val < 1 := (i 0).isLt; have h1 : (j 0).val < 1 := (j 0).isLt; show (i 0).val = (j 0).val; omega

/-- Every point reads the inverse scale. -/
theorem iblk1_0_eq (c : Dev nD) (t : Fin cfg1.N) (k i : S1.Idx) : iblk1 V c 0 t k = V c main_v30 i := by
  unfold iblk1
  rw [View.read_apply]
  show V c main_v30 _ = V c main_v30 _
  congr 1
  exact idx_S1 _ _

/-- Every point reads the output scale. -/
theorem iblk1_1_eq (c : Dev nD) (t : Fin cfg1.N) (k i : S1.Idx) : iblk1 V c 1 t k = V c main_v32 i := by
  unfold iblk1
  rw [View.read_apply]
  show V c main_v32 _ = V c main_v32 _
  congr 1
  exact idx_S1 _ _

end AnyF

/-- The body's codes at an entry. -/
theorem pay1_apply (g u : Vec Ideal S256x3072 .bf16) (inv : EReal) (k : S256x3072.Idx) :
    k1_pay1 (F := Ideal) g u inv k = min (Ideal.ofBits .f32 0x43E00000#32)
      (max (Ideal.ofBits .f32 0xC3E00000#32) (Cert.Value.prod (g k) (u k) * inv)) := by
  unfold k1_pay1
  rw [shapeCast_self, shapeCast_self]
  rfl

/-- The body's products at an entry. -/
theorem pay2_apply (g u : Vec Ideal S256x3072 .bf16) (inv : EReal) (w : Vec Ideal S3072x3072 .fp8e4m3) (s : EReal)
    (k : S256x3072.Idx) : k1_pay2 (F := Ideal) g u inv w s k =
      (∑ q : Fin 3072, k1_pay1 (F := Ideal) g u inv (ix2 (k 0) q) * w (ix2 q (k 1))) * s := by
  have e : matmul dot_S256x3072_S3072x3072_S256x3072_1_0_0_1_n_n none (k1_pay1 (F := Ideal) g u inv : FVec Ideal S256x3072 .bf16)
      (w : FVec Ideal S3072x3072 .bf16) (constant S256x3072 .f32 0x00000000#32) (ix2 (k 0) (k 1)) =
      ∑ q : Fin 3072, k1_pay1 (F := Ideal) g u inv (ix2 (k 0) q) * w (ix2 q (k 1)) :=
    (Ideal.matmul_plain_apply (M := 256) (K := 3072) (N := 3072) none _ _ _ _ _).trans (by
      rw [show constant (F := Ideal) S256x3072 .f32 0x00000000#32 (ix2 (k 0) (k 1)) = 0 from Ideal.ofBits_zero_f32, zero_add])
  have hk : (ix2 (k 0) (k 1) : S256x3072.Idx) = k := (eq_ix2 k).symm
  replace e := (congrArg (matmul dot_S256x3072_S3072x3072_S256x3072_1_0_0_1_n_n none (k1_pay1 (F := Ideal) g u inv : FVec Ideal S256x3072 .bf16)
      (w : FVec Ideal S3072x3072 .bf16) (constant S256x3072 .f32 0x00000000#32)) hk).symm.trans e
  unfold k1_pay2
  exact congrArg (· * s) e

variable (V : (c : Dev nD) → (b : Ref sig .tc) → Buf (Elt Ideal) ((c : Thread nD τ).loc b))

/-- The inverse scale and the output scale region 1 is entered with. -/
abbrev invAt (c : Dev nD) : EReal := (V c main_v30 : Vec Ideal S1 .f32) (Shape.Idx.first (s := S1) (by decide))
abbrev outScaleAt (c : Dev nD) : EReal := (V c main_v32 : Vec Ideal S1 .f32) (Shape.Idx.first (s := S1) (by decide))

/-- Row `k` of point `t`'s block, in the whole array. -/
abbrev rowIdx (t : Fin cfg1.N) (k : S256x3072.Idx) : Cert.Value.SP.Idx := fun a => match a with
  | ⟨0, _⟩ => (⟨256 * t.val + (k 0).val, by
      have ht : t.val < 24 := Nat.lt_of_lt_of_eq t.isLt N_1
      have hk : (k 0).val < 256 := (k 0).isLt
      omega⟩ : Fin 6144)
  | ⟨1, _⟩ => (⟨(k 1).val, (k 1).isLt⟩ : Fin 3072)

/-- The codes' block of point `t` is the block of the whole array's codes. -/
theorem codes_blk (c : Dev nD) (t : Fin cfg1.N) (k : S256x3072.Idx) :
    k1_pay1 (F := Ideal) (iblk1 V c 2 t) (iblk1 V c 3 t) (invAt V c) k
      = Cert.Value.codesOf (V c main_v0) (invAt V c) (rowIdx t k) := by
  rw [pay1_apply, iblk1_2_apply V c t k (Cert.Value.gateIdx (rowIdx t k)) rfl rfl,
    iblk1_3_apply V c t k (Cert.Value.upIdx (rowIdx t k)) rfl rfl]
  rfl

/-- What region 1 leaves in its two result arrays. -/
abbrev codes1 (c : Dev nD) : Cert.Value.SP.Idx → EReal := Cert.Value.codesOf (V c main_v0) (invAt V c)
abbrev linear1 (c : Dev nD) : Cert.Value.SP.Idx → EReal :=
  Cert.Value.linearOf (codes1 V c) (V c main_arg1) (outScaleAt V c)

/-- The codes point `t` stores, as entries of the whole array of codes. -/
theorem outs1_codes (c : Dev nD) (t : Fin cfg1.N) (k : S256x3072.Idx) : (outsAt1 V c t).2 k = codes1 V c (rowIdx t k) := by
  unfold outsAt1
  dsimp only
  rw [out1_6, iblk1_0_eq V c t _ (Shape.Idx.first (by decide))]
  exact codes_blk V c t k

/-- The products point `t` stores, as entries of the whole array of products. -/
theorem outs1_linear (c : Dev nD) (t : Fin cfg1.N) (k : S256x3072.Idx) : (outsAt1 V c t).1 k = linear1 V c (rowIdx t k) := by
  unfold outsAt1
  dsimp only
  rw [out1_5, iblk1_0_eq V c t _ (Shape.Idx.first (by decide)), iblk1_1_eq V c t _ (Shape.Idx.first (by decide)), iblk1_4_eq]
  refine (pay2_apply _ _ _ _ _ k).trans ?_
  show _ = (∑ q : Fin 3072, codes1 V c (ix2 (rowIdx t k 0) q) * _) * _
  refine congrArg (· * outScaleAt V c) (Finset.sum_congr rfl fun q _ => ?_)
  refine congr (congrArg HMul.hMul ((codes_blk V c t (ix2 (k 0) q)).trans ?_)) ?_
  · congr 1
    funext a
    match a with
    | ⟨0, _⟩ => rfl
    | ⟨1, _⟩ => rfl
  · rfl

/-- What point `t` writes back to the products. -/
theorem flushed1_5 (c : Dev nD) (t : Fin cfg1.N) :
    (dat1 V c).flushed 5 t = ((cfg1.win 5).blk t).view.read (Elt Ideal) (linear1 V c) := by
  show (cfg1.win 5).cut (grid1.coords t) ((dat1 V c).after 5 t) = _
  rw [after1_5]
  funext k
  rw [View.read_apply]
  refine (outs1_linear V c t k).trans ?_
  show linear1 V c _ = linear1 V c _
  congr 1
  funext a
  apply Fin.ext
  match a with
  | ⟨0, _⟩ => show 256 * t.val + (k 0).val = win1_5.index t 0 * 256 + 1 * (k 0).val; rw [(index1_5 t).1]; omega
  | ⟨1, _⟩ => show (k 1).val = win1_5.index t 1 * 3072 + 1 * (k 1).val; rw [(index1_5 t).2]; omega

/-- What point `t` writes back to the codes. -/
theorem flushed1_6 (c : Dev nD) (t : Fin cfg1.N) :
    (dat1 V c).flushed 6 t = ((cfg1.win 6).blk t).view.read (Elt Ideal) (codes1 V c) := by
  show (cfg1.win 6).cut (grid1.coords t) ((dat1 V c).after 6 t) = _
  rw [after1_6]
  funext k
  rw [View.read_apply]
  refine (outs1_codes V c t k).trans ?_
  show codes1 V c _ = codes1 V c _
  congr 1
  funext a
  apply Fin.ext
  match a with
  | ⟨0, _⟩ => show 256 * t.val + (k 0).val = win1_6.index t 0 * 256 + 1 * (k 0).val; rw [(index1_6 t).1]; omega
  | ⟨1, _⟩ => show (k 1).val = win1_6.index t 1 * 3072 + 1 * (k 1).val; rw [(index1_6 t).2]; omega

/-- The point whose block holds row `i`. -/
abbrev pointOf (i : Cert.Value.SP.Idx) : Fin cfg1.N :=
  ⟨(i 0).val / 256, by rw [show cfg1.N = 24 from N_1]; have h : (i 0).val < 6144 := (i 0).isLt; omega⟩

/-- The products' array ends holding the product of all rows' codes with the weight codes, scaled. -/
theorem final1_5 (c : Dev nD) : (dat1 V c).arrAt 5 cfg1.N = linear1 V c :=
  (dat1 V c).arrAt_eq_of_cover 5 (linear1 V c) (fun t _ => flushed1_5 V c t) fun i =>
    ⟨pointOf i, flush1_5 _, by
      show i ∈ ((View.whole main_v33_0).slice (win1_5.rect (pointOf i))).set
      rw [View.set_slice_whole, Rect.mem_set_unit]
      intro a
      have h0 : (i 0 : Nat) < 6144 := (i 0).isLt
      have h1 : (i 1 : Nat) < 3072 := (i 1).isLt
      match a with
      | ⟨0, _⟩ => show win1_5.index (pointOf i) 0 * 256 ≤ (i 0 : Nat) ∧ (i 0 : Nat) < win1_5.index (pointOf i) 0 * 256 + 256
                  rw [(index1_5 _).1]; dsimp only; omega
      | ⟨1, _⟩ => show win1_5.index (pointOf i) 1 * 3072 ≤ (i 1 : Nat) ∧ (i 1 : Nat) < win1_5.index (pointOf i) 1 * 3072 + 3072
                  rw [(index1_5 _).2]; omega⟩

/-- The codes' array ends holding all rows' codes. -/
theorem final1_6 (c : Dev nD) : (dat1 V c).arrAt 6 cfg1.N = codes1 V c :=
  (dat1 V c).arrAt_eq_of_cover 6 (codes1 V c) (fun t _ => flushed1_6 V c t) fun i =>
    ⟨pointOf i, flush1_6 _, by
      show i ∈ ((View.whole main_v33_1).slice (win1_6.rect (pointOf i))).set
      rw [View.set_slice_whole, Rect.mem_set_unit]
      intro a
      have h0 : (i 0 : Nat) < 6144 := (i 0).isLt
      have h1 : (i 1 : Nat) < 3072 := (i 1).isLt
      match a with
      | ⟨0, _⟩ => show win1_6.index (pointOf i) 0 * 256 ≤ (i 0 : Nat) ∧ (i 0 : Nat) < win1_6.index (pointOf i) 0 * 256 + 256
                  rw [(index1_6 _).1]; dsimp only; omega
      | ⟨1, _⟩ => show win1_6.index (pointOf i) 1 * 3072 ≤ (i 1 : Nat) ∧ (i 1 : Nat) < win1_6.index (pointOf i) 1 * 3072 + 3072
                  rw [(index1_6 _).2]; omega⟩

end Cert.KernelIdeal.Value

end
-- ==== Proof.Value.KRun.lean ====
/- The run of the idealized kernel with its three results read at the last boundary of the fold `Gen.W13` (every buffer's
   contents at every boundary between host operations and kernel calls), by the generated frame's launch over the segments. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- Every weakly fair execution of the kernel's @main ends with the three result arrays at the contents the fold gives
    them, the three arguments as launched and every semaphore counter at zero. -/
theorem run_results : θ_run defs (onTc (τ := τ) (main (F := F))) ⟨m, fun _ => 0, ρ⟩ (fun r => (∀ c : Dev nD,
      r.2.mem ((c.tc : Thread nD τ).loc main_v34) = W13 m ρ c (Proc.devRef .tc main_v34)
      ∧ r.2.mem ((c.tc : Thread nD τ).loc main_v35) = W13 m ρ c (Proc.devRef .tc main_v35)
      ∧ r.2.mem ((c.tc : Thread nD τ).loc main_v24) = W13 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨(fun c =>
      ⟨h c _ (mem_uc main_v34 (by decide)),
       h c _ (mem_uc main_v35 (by decide)),
       h c _ (mem_uc main_v24 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c)⟩), funext fun g => hz g (.inr (no_unscoped g.2))⟩)

end Cert.KernelIdeal.Value

end
-- ==== Proof.Value.KHost.lean ====
/- What the kernel's host operations leave: the amplitude from the tile region 0 returns, the scale's exponent, the scale and its inverse,
   and the three results in terms of what region 1 leaves. -/
module

public import proofs.«01_k».proof.Proof.Value.Region1
public import proofs.«01_k».proof.Proof.Value.KRun
public import Idealize.ShloMosaic.Lib.StableHlo.RunRead

@[expose] public section

set_option maxRecDepth 16384

noncomputable section

namespace Cert.KernelIdeal.Value

open Cert.KernelIdeal Cert.KernelIdeal.Gen
open Idealize.ShloMosaic Idealize.ShloMosaic.TcCoe Idealize.ShloMosaic.Tactic

variable {F : FTy → Type} [FloatOps F]

/-- The amplitude: the largest entry of the tile. -/
def kAmax (x : Vec F S8x128 .f32) : Vec F S_ .f32 :=
  Host.reduce FloatOps.maximumf x (constant S_ .f32 0xFF800000#32) reducesTo_S8x128_S_d0_1 h_S_

/-- How many of the powers of two reach no further than `t`: `t`'s exponent field. -/
def kCount (t : Vec F S_ .f32) : Vec F S_ .i32 :=
  Host.reduce IntOp.addi (extui 32 (cmpf .oge (broadcastInDim S255 ![] bcast_S_S255 t)
    (bitcastToFloat .f32 (Host.shli (addi (broadcastInDim S255 ![] bcast_S_S255 (constantI S_ 32 1#32)) (iotaInDim S255 32 0))
      (broadcastInDim S255 ![] bcast_S_S255 (constantI S_ 32 23#32))))) natLt_1_32) (constantI S_ 32 0#32) reducesTo_S255_S_d0 h_S_

/-- The scale's exponent from the count. -/
def kExpOf (n : Vec F S_ .i32) : Vec F S_ .i32 :=
  select (ori (cmpi .eq n (constantI S_ 32 0#32)) (cmpi .eq n (constantI S_ 32 255#32))) (constantI S_ 32 0#32)
    (subi n (constantI S_ 32 126#32))

/-- The scale's exponent from the amplitude. -/
def kExp (a : Vec F S_ .f32) : Vec F S_ .i32 :=
  select (cmpf .oeq a (constant S_ .f32 0x00000000#32)) (constantI S_ 32 0#32)
    (kExpOf (F := F) (kCount (mulf a (constant S_ .f32 0x3B124925#32))))

/-- The power of two of an exponent, by its bits. -/
def kPow (e : Vec F S_ .i32) : Vec F S_ .f32 :=
  bitcastToFloat .f32 (Host.shli (minsi (constantI S_ 32 255#32) (maxsi (constantI S_ 32 0#32) (addi e (constantI S_ 32 127#32))))
    (constantI S_ 32 23#32))

variable (m : (ℓ : Loc nD τ sig) → Buf (Elt F) ℓ) (ρ : Dev nD → PrngReg)

/-- The scale, when region 1 is entered. -/
theorem W11_scale (c : Dev nD) : W11 m ρ c (Proc.devRef .tc main_v24) = kPow (F := F) (kExp (kAmax (W2 m ρ c (Proc.devRef .tc main_v1)))) := by
  after_reads_simp
  rfl

/-- The inverse scale, when region 1 is entered. -/
theorem W11_inv (c : Dev nD) : W11 m ρ c (Proc.devRef .tc main_v30) = shapeCast S1 (kPow (F := F) (negi (kExp (kAmax (W2 m ρ c (Proc.devRef .tc main_v1)))))) shapeCasts_S_S1 := by
  after_reads_simp
  rfl

/-- The output scale, when region 1 is entered. -/
theorem W11_outScale (c : Dev nD) : W11 m ρ c (Proc.devRef .tc main_v32) = shapeCast S1 (mulf (kPow (F := F) (kExp (kAmax (W2 m ρ c (Proc.devRef .tc main_v1))))) (W2 m ρ c (Proc.devRef .tc main_arg2))) shapeCasts_S_S1 := by
  after_reads_simp
  rfl

/-- The first result is region 1's products, regrouped by batch. -/
theorem W13_y (c : Dev nD) : W13 m ρ c (Proc.devRef .tc main_v34) = shapeCast S4x1536x3072 (W12 m ρ c (Proc.devRef .tc main_v33_0) : Vec F S6144x3072 .bf16) shapeCasts_S6144x3072_S4x1536x3072 := by
  after_reads_simp
  rfl

/-- The second result is region 1's codes, regrouped by batch. -/
theorem W13_codes (c : Dev nD) : W13 m ρ c (Proc.devRef .tc main_v35) = shapeCast S4x1536x3072 (W12 m ρ c (Proc.devRef .tc main_v33_1) : Vec F S6144x3072 .fp8e4m3) shapeCasts_S6144x3072_S4x1536x3072 := by
  after_reads_simp
  rfl

/-- The rows both regions read are the first argument's, flattened. -/
theorem W1_rows (c : Dev nD) : W1 m ρ c (Proc.devRef .tc main_v0) = shapeCast S6144x6144 (m ((c.tc : Thread nD τ).loc main_arg0) : Vec F S4x1536x6144 .bf16) shapeCasts_S4x1536x6144_S6144x6144 := by
  after_reads_simp
  rfl

end Cert.KernelIdeal.Value

end
-- ==== Proof.Value.KResult.lean ====
/- The idealized kernel's three results as functions of its arguments. -/
module

public import proofs.«01_k».proof.Proof.Value.KHost

@[expose] public section

set_option maxRecDepth 16384

noncomputable section

namespace Cert.KernelIdeal.Value

open Cert.KernelIdeal Cert.KernelIdeal.Gen
open Idealize.ShloMosaic Idealize.ShloMosaic.TcCoe Idealize.ShloMosaic.Tactic

variable (m : (ℓ : Loc nD τ sig) → Buf (Elt Ideal) ℓ) (ρ : Dev nD → PrngReg)

/-- The rows of gate and up entries, flattened from the first argument. -/
abbrev rowsOf (c : Dev nD) : Cert.Value.SH.Idx → EReal :=
  shapeCast S6144x6144 (m ((c.tc : Thread nD τ).loc main_arg0) : Vec Ideal S4x1536x6144 .bf16) shapeCasts_S4x1536x6144_S6144x6144

/-- The one index of a scalar. -/
abbrev i0 : S_.Idx := Shape.Idx.first h_S_

/-- A scalar has one index. -/
theorem idx_S (i j : S_.Idx) : i = j := funext fun a => a.elim0

/-- The amplitude the kernel finds on device `c`. -/
abbrev amp (c : Dev nD) : Vec Ideal S_ .f32 := kAmax (F := Ideal) (tile (V1 m ρ) c)

/-- The amplitude lies below `x` exactly when `x` is not negative and every absolute product does. -/
theorem amp_le (c : Dev nD) (x : EReal) : amp m ρ c i0 ≤ x ↔ 0 ≤ x ∧ Cert.Value.Bounded (rowsOf m c) x := by
  have e := tile_le (V1 m ρ) c x
  rw [show V1 m ρ c main_v0 = rowsOf m c from W1_rows m ρ c] at e
  rw [← e]
  refine (iff_of_eq (congrArg (· ≤ x) (Host.reduce_eq_fold (FloatOps.maximumf (F := Ideal) (φ := .f32)) (tile (V1 m ρ) c)
    (constant S_ .f32 0xFF800000#32) reducesTo_S8x128_S_d0_1 h_S_ i0))).trans ?_
  rw [Cert.Value.fold_le]
  constructor
  · intro h j
    exact h.2 j (Finset.mem_filter.mpr ⟨Finset.mem_univ _, idx_S _ _⟩)
  · intro h
    exact ⟨le_of_eq_of_le Cert.Value.ofBits_bot bot_le, fun i _ => h i⟩

/-- Region 0 leaves the tile of running maxima. -/
theorem W2_tile (c : Dev nD) : W2 m ρ c (Proc.devRef .tc main_v1) = tile (V1 m ρ) c :=
  (W2_arr m ρ c 2).trans (final0 (V1 m ρ) c)

/-- Region 1 is entered with the rows as launched. -/
theorem V11_rows (c : Dev nD) : V11 m ρ c main_v0 = rowsOf m c :=
  (W11_of m ρ c main_v0 (by decide)).trans <| (W10_of m ρ c main_v0 (by decide)).trans <| (W9_of m ρ c main_v0 (by decide)).trans <|
  (W8_of m ρ c main_v0 (by decide)).trans <| (W7_of m ρ c main_v0 (by decide)).trans <| (W6_of m ρ c main_v0 (by decide)).trans <|
  (W5_of m ρ c main_v0 (by decide)).trans <| (W4_of m ρ c main_v0 (by decide)).trans <| (W3_of m ρ c main_v0 (by decide)).trans <|
  (W2_of m ρ c main_v0 (by decide)).trans (W1_rows m ρ c)

/-- Region 1 is entered with the weights as launched. -/
theorem V11_weights (c : Dev nD) : V11 m ρ c main_arg1 = m ((c.tc : Thread nD τ).loc main_arg1) :=
  W11_args m ρ c main_arg1 (by decide)

/-- The inverse scale region 1 reads. -/
theorem V11_inv (c : Dev nD) : invAt (V11 m ρ) c = kPow (F := Ideal) (negi (kExp (amp m ρ c))) i0 := by
  show (W11 m ρ c (Proc.devRef .tc main_v30) : Vec Ideal S1 .f32) _ = _
  rw [W11_inv, W2_tile]
  exact congrArg (kPow (F := Ideal) (negi (kExp (amp m ρ c)))) (idx_S _ _)

/-- The output scale region 1 reads: the scale times the weights' scale. -/
theorem V11_outScale (c : Dev nD) : outScaleAt (V11 m ρ) c =
    kPow (F := Ideal) (kExp (amp m ρ c)) i0 * (m ((c.tc : Thread nD τ).loc main_arg2) : Vec Ideal S_ .f32) i0 := by
  show (W11 m ρ c (Proc.devRef .tc main_v32) : Vec Ideal S1 .f32) _ = _
  rw [W11_outScale, W2_tile, W2_args m ρ c main_arg2 (by decide)]
  exact congrArg (mulf (F := Ideal) (φ := .f32) (kPow (F := Ideal) (kExp (amp m ρ c))) (m ((c.tc : Thread nD τ).loc main_arg2))) (idx_S _ _)

/-- The third result: the scale. -/
theorem result_scale (c : Dev nD) : W13 m ρ c (Proc.devRef .tc main_v24) = kPow (F := Ideal) (kExp (amp m ρ c)) := by
  rw [W13_of m ρ c main_v24 (by decide), W12_of m ρ c main_v24 (by decide), W11_scale, W2_tile]

/-- The second result: the codes, regrouped by batch. -/
theorem result_codes (c : Dev nD) : W13 m ρ c (Proc.devRef .tc main_v35) =
    shapeCast S4x1536x3072 (Cert.Value.codesOf (rowsOf m c) (kPow (F := Ideal) (negi (kExp (amp m ρ c))) i0) : Vec Ideal S6144x3072 .fp8e4m3)
      shapeCasts_S6144x3072_S4x1536x3072 := by
  rw [W13_codes, show W12 m ρ c (Proc.devRef .tc main_v33_1) = codes1 (V11 m ρ) c from (W12_arr m ρ c 6).trans (final1_6 (V11 m ρ) c)]
  unfold codes1
  rw [V11_inv, V11_rows]

/-- The first result: the products, regrouped by batch. -/
theorem result_y (c : Dev nD) : W13 m ρ c (Proc.devRef .tc main_v34) =
    shapeCast S4x1536x3072 (Cert.Value.linearOf
      (Cert.Value.codesOf (rowsOf m c) (kPow (F := Ideal) (negi (kExp (amp m ρ c))) i0)) (m ((c.tc : Thread nD τ).loc main_arg1))
      (kPow (F := Ideal) (kExp (amp m ρ c)) i0 * (m ((c.tc : Thread nD τ).loc main_arg2) : Vec Ideal S_ .f32) i0) : Vec Ideal S6144x3072 .bf16)
      shapeCasts_S6144x3072_S4x1536x3072 := by
  rw [W13_y, show W12 m ρ c (Proc.devRef .tc main_v33_0) = linear1 (V11 m ρ) c from (W12_arr m ρ c 5).trans (final1_5 (V11 m ρ) c)]
  unfold linear1 codes1
  rw [V11_inv, V11_outScale, V11_rows, V11_weights]

end Cert.KernelIdeal.Value

end
-- ==== Proof.Value.RHost.lean ====
/- What the reference's host operations leave: the gated product, its amplitude, the scale's exponent, the scale and its inverse. -/
module

public import proofs.«01_k».proof.Proof.Value.KResult
public import proofs.«01_k».proof.Proof.Gen.ReferenceIdeal.Frame

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

variable {F : FTy → Type} [FloatOps F]

/-- The flattened rows of gate and up entries. -/
def rRows (x : Vec F S4x1536x6144 .bf16) : Vec F S6144x6144 .bf16 := shapeCast S6144x6144 x shapeCasts_S4x1536x6144_S6144x6144

/-- The gate half and the up half of the rows. -/
def rGate (h : Vec F S6144x6144 .bf16) : Vec F S6144x3072 .f32 :=
  extf .f32 (extractStridedSlice S6144x3072 ![0, 0] h slices_S6144x6144_S6144x3072_0_0 : Vec F S6144x3072 .bf16) bitsLt_bf16_f32
def rUp (h : Vec F S6144x6144 .bf16) : Vec F S6144x3072 .f32 :=
  extf .f32 (extractStridedSlice S6144x3072 ![0, 3072] h slices_S6144x6144_S6144x3072_0_3072 : Vec F S6144x3072 .bf16) bitsLt_bf16_f32

/-- The gated product. -/
def rProd (h : Vec F S6144x6144 .bf16) : Vec F S6144x3072 .f32 :=
  mulf (mulf (rGate h) (Host.divf (broadcastInDim S6144x3072 ![] bcast_S_S6144x3072 (constant S_ .f32 0x3F800000#32))
    (addf (broadcastInDim S6144x3072 ![] bcast_S_S6144x3072 (constant S_ .f32 0x3F800000#32)) (Host.exp (Host.negf (rGate h)))))) (rUp h)

/-- The amplitude: the largest absolute value. -/
def rAmax (p : Vec F S6144x3072 .f32) : Vec F S_ .f32 :=
  Host.reduce FloatOps.maximumf (Host.absf p) (constant S_ .f32 0xFF800000#32) reducesTo_S6144x3072_S_d0_1 h_S_

/-- The exponents -126, …, 127. -/
def rKs : Vec F S254 .i32 := addi (broadcastInDim S254 ![] bcast_S_S254 (constantI S_ 32 4294967170#32)) (iotaInDim S254 32 0)

/-- Their powers of two. -/
def rPows : Vec F S254 .f32 :=
  select (cmpi .slt (rKs (F := F)) (broadcastInDim S254 ![] bcast_S_S254 (constantI S_ 32 4294967170#32)))
    (broadcastInDim S254 ![] bcast_S_S254 (constant S_ .f32 0x00000000#32))
    (select (cmpi .sgt (rKs (F := F)) (broadcastInDim S254 ![] bcast_S_S254 (constantI S_ 32 127#32)))
      (broadcastInDim S254 ![] bcast_S_S254 (constant S_ .f32 0x7F800000#32))
      (Host.powf (broadcastInDim S254 ![] bcast_S_S254 (constant S_ .f32 0x40000000#32)) (sitofp .f32 (rKs (F := F)))))

/-- One more than the largest exponent whose power of two is at most `t`. -/
def rTop (t : Vec F S_ .f32) : Vec F S_ .i32 :=
  Host.reduce IntOp.maxsi (select (cmpf .ole (rPows (F := F)) (broadcastInDim S254 ![] bcast_S_S254 t))
    (addi (rKs (F := F)) (broadcastInDim S254 ![] bcast_S_S254 (constantI S_ 32 1#32)))
    (broadcastInDim S254 ![] bcast_S_S254 (constantI S_ 32 4294967170#32))) (constantI S_ 32 2147483648#32) reducesTo_S254_S_d0 h_S_

/-- The exponent of `t`, zero outside the normal range. -/
def rFrexp (t : Vec F S_ .f32) : Vec F S_ .i32 :=
  select (andi (cmpf .oge t (constant S_ .f32 0x00800000#32)) (cmpf .olt t (constant S_ .f32 0x7F800000#32))) (rTop t) (constantI S_ 32 0#32)

/-- The scale's exponent from the amplitude. -/
def rExp (a : Vec F S_ .f32) : Vec F S_ .i32 :=
  select (cmpf .oeq a (constant S_ .f32 0x00000000#32)) (constantI S_ 32 0#32) (rFrexp (mulf a (constant S_ .f32 0x3B124925#32)))

/-- The power of two of an exponent. -/
def rPow (e : Vec F S_ .i32) : Vec F S_ .f32 :=
  select (cmpi .slt e (constantI S_ 32 4294967170#32)) (constant S_ .f32 0x00000000#32)
    (select (cmpi .sgt e (constantI S_ 32 127#32)) (constant S_ .f32 0x7F800000#32)
      (Host.powf (constant S_ .f32 0x40000000#32) (sitofp .f32 e)))

variable (m : (ℓ : Loc nD τ sig) → Buf (Elt F) ℓ)

/-- The gated product of the launched first argument. -/
abbrev rP (c : Dev nD) : Vec F S6144x3072 .f32 := rProd (rRows (m ((c.tc : Thread nD τ).loc main_arg0)))

/-- The contents after the operations up to the powers of two, and after those up to the exponent. -/
def X1 (c : Dev nD) : Valuation τ sig (Elt F) := StableHlo.after (List.flatten [hostOps0, hostOps0_1, hostOps0_2]) fun b => m (c, b)
def X2 (c : Dev nD) : Valuation τ sig (Elt F) := StableHlo.after (List.flatten [hostOps0_3, hostOps0_4, hostOps0_5, hostOps0_6, hostOps0_7, hostOps0_8, hostOps0_9, hostOps0_10, hostOps0_11]) (X1 m c)

/-- The operations before the region, in three runs. -/
theorem V0_eq (c : Dev nD) : V0 m c = StableHlo.after (List.flatten [hostOps0_12, hostOps0_13, hostOps0_14, hostOps0_15, hostOps0_16, hostOps0_17, hostOps0_18, hostOps0_19, hostOps0_20]) (X2 m c) := rfl

/-- After the first run: the gated product. -/
theorem X1_prod (c : Dev nD) : X1 m c (Proc.devRef .tc main_v6) = rP m c := by
  unfold X1
  after_reads_simp
  rfl

/-- After the first run: the amplitude. -/
theorem X1_amax (c : Dev nD) : X1 m c (Proc.devRef .tc main_v8) = rAmax (rP m c) := by
  unfold X1
  after_reads_simp
  rfl

/-- After the first run: the amplitude over the largest code. -/
theorem X1_t (c : Dev nD) : X1 m c (Proc.devRef .tc main_v9) = mulf (rAmax (rP m c)) (constant S_ .f32 0x3B124925#32) := by
  unfold X1
  after_reads_simp
  rfl

/-- After the first run: the exponents. -/
theorem X1_ks (c : Dev nD) : X1 m c (Proc.devRef .tc main_v12) = rKs (F := F) := by
  unfold X1
  after_reads_simp
  rfl

/-- After the first run: two to the exponents. -/
theorem X1_pows (c : Dev nD) : X1 m c (Proc.devRef .tc main_v15) =
      Host.powf (broadcastInDim S254 ![] bcast_S_S254 (constant S_ .f32 0x40000000#32)) (sitofp (F := F) .f32 (rKs (F := F))) := by
  unfold X1
  after_reads_simp
  rfl

/-- After the first run: which exponents lie below the normal range. -/
theorem X1_low (c : Dev nD) : X1 m c (Proc.devRef .tc main_v17) = cmpi .slt (rKs (F := F)) (broadcastInDim S254 ![] bcast_S_S254 (constantI S_ 32 4294967170#32)) := by
  unfold X1
  after_reads_simp
  rfl

/-- After the first run: which exponents lie above it. -/
theorem X1_high (c : Dev nD) : X1 m c (Proc.devRef .tc main_v19) = cmpi .sgt (rKs (F := F)) (broadcastInDim S254 ![] bcast_S_S254 (constantI S_ 32 127#32)) := by
  unfold X1
  after_reads_simp
  rfl

/-- After the first run: infinity. -/
theorem X1_inf (c : Dev nD) : X1 m c (Proc.devRef .tc main_cst_4) = constant (F := F) S_ .f32 0x7F800000#32 := by
  unfold X1
  after_reads_simp

/-- The weights' scale stays as launched. -/
theorem X1_arg2 (c : Dev nD) : X1 m c (Proc.devRef .tc main_arg2) = m ((c.tc : Thread nD τ).loc main_arg2) := by
  unfold X1
  after_reads_simp

/-- The weights' scale stays as launched. -/
theorem X2_arg2 (c : Dev nD) : X2 m c (Proc.devRef .tc main_arg2) = m ((c.tc : Thread nD τ).loc main_arg2) := by
  unfold X2
  after_reads_simp
  exact X1_arg2 m c

/-- The second run leaves the gated product. -/
theorem X2_prod (c : Dev nD) : X2 m c (Proc.devRef .tc main_v6) = rP m c := by
  unfold X2
  after_reads_simp
  exact X1_prod m c

/-- What the second run leaves as the exponent, from any contents it starts at. -/
theorem after_exp (X : Valuation τ sig (Elt F)) :
    StableHlo.after (List.flatten [hostOps0_3, hostOps0_4, hostOps0_5, hostOps0_6, hostOps0_7, hostOps0_8, hostOps0_9, hostOps0_10, hostOps0_11]) X (Proc.devRef .tc main_v33) =
      select (cmpf .oeq (X (Proc.devRef .tc main_v8) : Vec F S_ .f32) (constant S_ .f32 0x00000000#32)) (constantI S_ 32 0#32)
        (select (andi (cmpf .oge (X (Proc.devRef .tc main_v9) : Vec F S_ .f32) (constant S_ .f32 0x00800000#32)) (cmpf .olt (X (Proc.devRef .tc main_v9) : Vec F S_ .f32) (constant S_ .f32 0x7F800000#32)))
          (Host.reduce IntOp.maxsi (select (cmpf .ole
              (select (X (Proc.devRef .tc main_v17) : Vec F S254 .i1) (broadcastInDim S254 ![] bcast_S_S254 (constant S_ .f32 0x00000000#32))
                (select (X (Proc.devRef .tc main_v19) : Vec F S254 .i1) (broadcastInDim S254 ![] bcast_S_S254 (X (Proc.devRef .tc main_cst_4) : Vec F S_ .f32))
                  (X (Proc.devRef .tc main_v15) : Vec F S254 .f32)))
              (broadcastInDim S254 ![] bcast_S_S254 (X (Proc.devRef .tc main_v9) : Vec F S_ .f32)))
            (addi (X (Proc.devRef .tc main_v12) : Vec F S254 .i32) (broadcastInDim S254 ![] bcast_S_S254 (constantI S_ 32 1#32)))
            (broadcastInDim S254 ![] bcast_S_S254 (constantI S_ 32 4294967170#32))) (constantI S_ 32 2147483648#32) reducesTo_S254_S_d0 h_S_)
          (constantI S_ 32 0#32)) := by
  after_reads_simp
  simp only [StableHlo.TRef.ofBuf_toBuf]
  simp -implicitDefEqProofs only [StableHlo.TRef.toBuf, StableHlo.TRef.ofBuf, cast_cast, cast_eq]
  rfl

/-- After the second run: the scale's exponent. -/
theorem X2_exp (c : Dev nD) : X2 m c (Proc.devRef .tc main_v33) = rExp (rAmax (rP m c)) := by
  unfold X2
  rw [after_exp, X1_amax, X1_t, X1_low, X1_high, X1_inf, X1_pows, X1_ks]
  rfl

/-- The gated product, when the region is entered. -/
theorem V_prod (c : Dev nD) : V m c main_v6 = rP m c := by
  show V0 m c _ = _
  rw [V0_eq]
  after_reads_simp
  exact X2_prod m c

/-- What the third run leaves as the scale, from any contents it starts at. -/
theorem after_scale (X : Valuation τ sig (Elt F)) : StableHlo.after (List.flatten [hostOps0_12, hostOps0_13, hostOps0_14, hostOps0_15, hostOps0_16, hostOps0_17, hostOps0_18, hostOps0_19, hostOps0_20]) X (Proc.devRef .tc main_v39) =
    rPow (F := F) (X (Proc.devRef .tc main_v33) : Vec F S_ .i32) := by
  after_reads_simp
  simp only [StableHlo.TRef.ofBuf_toBuf]
  simp -implicitDefEqProofs only [StableHlo.TRef.toBuf, StableHlo.TRef.ofBuf, cast_cast, cast_eq]
  rfl

/-- What the third run leaves as the inverse scale. -/
theorem after_inv (X : Valuation τ sig (Elt F)) : StableHlo.after (List.flatten [hostOps0_12, hostOps0_13, hostOps0_14, hostOps0_15, hostOps0_16, hostOps0_17, hostOps0_18, hostOps0_19, hostOps0_20]) X (Proc.devRef .tc main_v47) =
    shapeCast S1x1 (rPow (F := F) (negi (X (Proc.devRef .tc main_v33) : Vec F S_ .i32))) shapeCasts_S_S1x1 := by
  after_reads_simp
  simp only [StableHlo.TRef.ofBuf_toBuf]
  simp -implicitDefEqProofs only [StableHlo.TRef.toBuf, StableHlo.TRef.ofBuf, cast_cast, cast_eq]
  rfl

/-- What the third run leaves as the output scale. -/
theorem after_outScale (X : Valuation τ sig (Elt F)) : StableHlo.after (List.flatten [hostOps0_12, hostOps0_13, hostOps0_14, hostOps0_15, hostOps0_16, hostOps0_17, hostOps0_18, hostOps0_19, hostOps0_20]) X (Proc.devRef .tc main_v49) =
    shapeCast S1x1 (mulf (rPow (F := F) (X (Proc.devRef .tc main_v33) : Vec F S_ .i32)) (X (Proc.devRef .tc main_arg2) : Vec F S_ .f32)) shapeCasts_S_S1x1 := by
  after_reads_simp
  simp only [StableHlo.TRef.ofBuf_toBuf]
  simp -implicitDefEqProofs only [StableHlo.TRef.toBuf, StableHlo.TRef.ofBuf, cast_cast, cast_eq]
  rfl

/-- The scale, when the region is entered. -/
theorem V_scale (c : Dev nD) : V m c main_v39 = rPow (rExp (rAmax (rP m c))) :=
  (after_scale (X2 m c)).trans (by rw [X2_exp])

/-- The inverse scale, when the region is entered. -/
theorem V_inv (c : Dev nD) : V m c main_v47 = shapeCast S1x1 (rPow (negi (rExp (rAmax (rP m c))))) shapeCasts_S_S1x1 :=
  (after_inv (X2 m c)).trans (by rw [X2_exp])

/-- The output scale, when the region is entered. -/
theorem V_outScale (c : Dev nD) : V m c main_v49 =
    shapeCast S1x1 (mulf (rPow (rExp (rAmax (rP m c)))) (m ((c.tc : Thread nD τ).loc main_arg2) : Vec F S_ .f32)) shapeCasts_S_S1x1 :=
  (after_outScale (X2 m c)).trans (by rw [X2_exp, X2_arg2])

end Cert.ReferenceIdeal.Value

end
-- ==== Proof.Value.RRegion.lean ====
/- The reference's one region, on whole arrays, and the reference's run with its three results read. -/
module

public import proofs.«01_k».proof.Proof.Value.RHost

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic Idealize.ShloMosaic.ValueIdx

/-- The offsets of a whole array are zero. -/
theorem hz2 : (![0, 0] : Fin 2 → Nat) = fun _ => 0 := funext fun a => by fin_cases a <;> rfl

/-- Every window has one block, at the origin. -/
theorem index0_0 : ∀ t : Fin cfg0.N, win0_0.index t 0 = 0 ∧ win0_0.index t 1 = 0 :=
  (by decide +kernel : ∀ t : Fin grid0.N, win0_0.index t 0 = 0 ∧ win0_0.index t 1 = 0)
theorem index0_3 : ∀ t : Fin cfg0.N, win0_3.index t 0 = 0 ∧ win0_3.index t 1 = 0 :=
  (by decide +kernel : ∀ t : Fin grid0.N, win0_3.index t 0 = 0 ∧ win0_3.index t 1 = 0)
theorem index0_4 : ∀ t : Fin cfg0.N, win0_4.index t 0 = 0 ∧ win0_4.index t 1 = 0 :=
  (by decide +kernel : ∀ t : Fin grid0.N, win0_4.index t 0 = 0 ∧ win0_4.index t 1 = 0)
theorem index0_5 : ∀ t : Fin cfg0.N, win0_5.index t 0 = 0 ∧ win0_5.index t 1 = 0 :=
  (by decide +kernel : ∀ t : Fin grid0.N, win0_5.index t 0 = 0 ∧ win0_5.index t 1 = 0)

/-- A one by one array has one index. -/
theorem idx_S1x1 (i j : S1x1.Idx) : i = j := by
  funext a
  apply Fin.ext
  match a with
  | ⟨0, _⟩ => have h0 : (i 0).val < 1 := (i 0).isLt; have h1 : (j 0).val < 1 := (j 0).isLt; show (i 0).val = (j 0).val; omega
  | ⟨1, _⟩ => have h0 : (i 1).val < 1 := (i 1).isLt; have h1 : (j 1).val < 1 := (j 1).isLt; show (i 1).val = (j 1).val; omega

/-! The one block of each window is its whole array. -/

/-- The one block of the gated product is the whole of it. -/
theorem read_0 (t : Fin cfg0.N) (X : Vec Ideal S6144x3072 .f32) :
    (((cfg0.win 0).blk t).view.read (Elt Ideal) X : Vec Ideal S6144x3072 .f32) = X := by
  funext k
  rw [View.read_apply]
  show X _ = X _
  congr 1
  funext a
  apply Fin.ext
  match a with
  | ⟨0, _⟩ => show win0_0.index t 0 * 6144 + 1 * (k 0).val = (k 0).val; rw [(index0_0 t).1]; omega
  | ⟨1, _⟩ => show win0_0.index t 1 * 3072 + 1 * (k 1).val = (k 1).val; rw [(index0_0 t).2]; omega

/-- The one block of the inverse scale. -/
theorem read_1 (t : Fin cfg0.N) (X : Vec Ideal S1x1 .f32) :
    (((cfg0.win 1).blk t).view.read (Elt Ideal) X : Vec Ideal S1x1 .f32) = X := by
  funext k
  rw [View.read_apply]
  show X _ = X _
  congr 1
  exact idx_S1x1 _ _

/-- The one block of the output scale. -/
theorem read_2 (t : Fin cfg0.N) (X : Vec Ideal S1x1 .f32) :
    (((cfg0.win 2).blk t).view.read (Elt Ideal) X : Vec Ideal S1x1 .f32) = X := by
  funext k
  rw [View.read_apply]
  show X _ = X _
  congr 1
  exact idx_S1x1 _ _

/-- The one block of the weights. -/
theorem read_3 (t : Fin cfg0.N) (X : Vec Ideal S3072x3072 .fp8e4m3) :
    (((cfg0.win 3).blk t).view.read (Elt Ideal) X : Vec Ideal S3072x3072 .fp8e4m3) = X := by
  funext k
  rw [View.read_apply]
  show X _ = X _
  congr 1
  funext a
  apply Fin.ext
  match a with
  | ⟨0, _⟩ => show win0_3.index t 0 * 3072 + 1 * (k 0).val = (k 0).val; rw [(index0_3 t).1]; omega
  | ⟨1, _⟩ => show win0_3.index t 1 * 3072 + 1 * (k 1).val = (k 1).val; rw [(index0_3 t).2]; omega

/-- The one block of the products. -/
theorem read_4 (t : Fin cfg0.N) (X : Vec Ideal S6144x3072 .bf16) :
    (((cfg0.win 4).blk t).view.read (Elt Ideal) X : Vec Ideal S6144x3072 .bf16) = X := by
  funext k
  rw [View.read_apply]
  show X _ = X _
  congr 1
  funext a
  apply Fin.ext
  match a with
  | ⟨0, _⟩ => show win0_4.index t 0 * 6144 + 1 * (k 0).val = (k 0).val; rw [(index0_4 t).1]; omega
  | ⟨1, _⟩ => show win0_4.index t 1 * 3072 + 1 * (k 1).val = (k 1).val; rw [(index0_4 t).2]; omega

/-- The one block of the codes. -/
theorem read_5 (t : Fin cfg0.N) (X : Vec Ideal S6144x3072 .fp8e4m3) :
    (((cfg0.win 5).blk t).view.read (Elt Ideal) X : Vec Ideal S6144x3072 .fp8e4m3) = X := by
  funext k
  rw [View.read_apply]
  show X _ = X _
  congr 1
  funext a
  apply Fin.ext
  match a with
  | ⟨0, _⟩ => show win0_5.index t 0 * 6144 + 1 * (k 0).val = (k 0).val; rw [(index0_5 t).1]; omega
  | ⟨1, _⟩ => show win0_5.index t 1 * 3072 + 1 * (k 1).val = (k 1).val; rw [(index0_5 t).2]; omega

variable (m : (ℓ : Loc nD τ sig) → Buf (Elt Ideal) ℓ) (ρ : Dev nD → PrngReg)

/-- The amplitude, on device `c`. -/
abbrev rA (c : Dev nD) : Vec Ideal S_ .f32 := rAmax (rP m c)

/-- The region reads the gated product. -/
theorem iblk_0_eq (c : Dev nD) (t : Fin cfg0.N) : iblk m c 0 t = rP m c := by
  unfold iblk
  rw [show V m c (Pipeline.arrRef spec0 0) = rP m c from V_prod m c]
  exact read_0 t (rP m c)

/-- The region reads the inverse scale. -/
theorem iblk_1_eq (c : Dev nD) (t : Fin cfg0.N) : iblk m c 1 t = shapeCast S1x1 (rPow (negi (rExp (rA m c)))) shapeCasts_S_S1x1 := by
  unfold iblk
  rw [show V m c (Pipeline.arrRef spec0 1) = _ from V_inv m c]
  exact read_1 t _

/-- The region reads the output scale. -/
theorem iblk_2_eq (c : Dev nD) (t : Fin cfg0.N) : iblk m c 2 t =
    shapeCast S1x1 (mulf (rPow (rExp (rA m c))) (m ((c.tc : Thread nD τ).loc main_arg2) : Vec Ideal S_ .f32)) shapeCasts_S_S1x1 := by
  unfold iblk
  rw [show V m c (Pipeline.arrRef spec0 2) = _ from V_outScale m c]
  exact read_2 t _

/-- The region reads the weights. -/
theorem iblk_3_eq (c : Dev nD) (t : Fin cfg0.N) : iblk m c 3 t = m ((c.tc : Thread nD τ).loc main_arg1) := by
  unfold iblk
  rw [show V m c (Pipeline.arrRef spec0 3) = _ from V_main_arg1 m c]
  exact read_3 t _

/-- The codes of the products `p` at the inverse scale `inv`. -/
def rCodes (p : S6144x3072.Idx → EReal) (inv : EReal) : S6144x3072.Idx → EReal := fun i =>
  min (Ideal.ofBits .f32 0x43E00000#32) (max (Ideal.ofBits .f32 0xC3E00000#32) (p i * inv))

/-- The codes the region stores. -/
theorem pay1_eq (p : Vec Ideal S6144x3072 .f32) (inv : Vec Ideal S1x1 .f32) (i : S1x1.Idx) :
    k0_pay1 (F := Ideal) p inv = rCodes p (inv i) := by
  funext k
  unfold k0_pay1
  rw [shapeCast_self, shapeCast_self]
  show min _ (max _ (p k * inv _)) = min _ (max _ (p k * inv i))
  exact congrArg (fun q => min (Ideal.ofBits .f32 0x43E00000#32) (max (Ideal.ofBits .f32 0xC3E00000#32) (p k * inv q))) (idx_S1x1 _ _)

/-- The products the region stores. -/
theorem pay2_eq (p : Vec Ideal S6144x3072 .f32) (inv : Vec Ideal S1x1 .f32) (w : Vec Ideal S3072x3072 .fp8e4m3)
    (s : Vec Ideal S1x1 .f32) (i : S1x1.Idx) :
    k0_pay2 (F := Ideal) p inv w s = Cert.Value.linearOf (rCodes p (inv i)) w (s i) := by
  funext k
  have e : matmul dot_S6144x3072_S3072x3072_S6144x3072_1_0_0_1_n_n none (k0_pay1 (F := Ideal) p inv : FVec Ideal S6144x3072 .bf16)
      (w : FVec Ideal S3072x3072 .bf16) (constant S6144x3072 .f32 0x00000000#32) (ix2 (k 0) (k 1)) =
      ∑ q : Fin 3072, k0_pay1 (F := Ideal) p inv (ix2 (k 0) q) * w (ix2 q (k 1)) :=
    (Ideal.matmul_plain_apply (M := 6144) (K := 3072) (N := 3072) none _ _ _ _ _).trans (by
      rw [show constant (F := Ideal) S6144x3072 .f32 0x00000000#32 (ix2 (k 0) (k 1)) = 0 from Ideal.ofBits_zero_f32, zero_add])
  have hk : (ix2 (k 0) (k 1) : S6144x3072.Idx) = k := (eq_ix2 k).symm
  replace e := (congrArg (matmul dot_S6144x3072_S3072x3072_S6144x3072_1_0_0_1_n_n none (k0_pay1 (F := Ideal) p inv : FVec Ideal S6144x3072 .bf16)
      (w : FVec Ideal S3072x3072 .bf16) (constant S6144x3072 .f32 0x00000000#32)) hk).symm.trans e
  refine (show k0_pay2 (F := Ideal) p inv w s k = matmul dot_S6144x3072_S3072x3072_S6144x3072_1_0_0_1_n_n none
      (k0_pay1 (F := Ideal) p inv : FVec Ideal S6144x3072 .bf16) (w : FVec Ideal S3072x3072 .bf16)
      (constant S6144x3072 .f32 0x00000000#32) k * s i from ?_).trans ((congrArg (· * s i) e).trans ?_)
  · unfold k0_pay2
    rw [shapeCast_self]
    exact congrArg (fun q => matmul dot_S6144x3072_S3072x3072_S6144x3072_1_0_0_1_n_n none
      (k0_pay1 (F := Ideal) p inv : FVec Ideal S6144x3072 .bf16) (w : FVec Ideal S3072x3072 .bf16)
      (constant S6144x3072 .f32 0x00000000#32) k * s q) (idx_S1x1 _ _)
  · rw [pay1_eq p inv i]
    rfl

/-- The one index of a scalar. -/
abbrev i0 : S_.Idx := Shape.Idx.first h_S_

/-- A scalar has one index. -/
theorem idx_S (i j : S_.Idx) : i = j := funext fun a => a.elim0

/-- What the region leaves in its two result arrays. -/
def codesV (c : Dev nD) : S6144x3072.Idx → EReal := rCodes (rP m c) (rPow (F := Ideal) (negi (rExp (rA m c))) i0)
def linearV (c : Dev nD) : S6144x3072.Idx → EReal :=
  Cert.Value.linearOf (codesV m c) (m ((c.tc : Thread nD τ).loc main_arg1))
    (rPow (F := Ideal) (rExp (rA m c)) i0 * (m ((c.tc : Thread nD τ).loc main_arg2) : Vec Ideal S_ .f32) i0)

/-- The codes as a function of the region's operands. -/
theorem out5_eq (x0 : Vec Ideal S6144x3072 .f32) (x1 x2 : Vec Ideal S1x1 .f32) (x3 : Vec Ideal S3072x3072 .fp8e4m3) (i : S1x1.Idx) :
    out0_5 (F := Ideal) x0 x1 x2 x3 = rCodes x0 (x1 i) := by
  unfold out0_5
  rw [View.canon_unit_zero hz2, View.ld_unit_zero (S := S6144x3072) hz2, View.ld_unit_zero (S := S1x1) hz2]
  exact pay1_eq _ _ i

/-- The products as a function of the region's operands. -/
theorem out4_eq (x0 : Vec Ideal S6144x3072 .f32) (x1 x2 : Vec Ideal S1x1 .f32) (x3 : Vec Ideal S3072x3072 .fp8e4m3) (i : S1x1.Idx) :
    out0_4 (F := Ideal) x0 x1 x2 x3 = Cert.Value.linearOf (rCodes x0 (x1 i)) x3 (x2 i) := by
  unfold out0_4
  rw [View.canon_unit_zero hz2, View.ld_unit_zero (S := S6144x3072) hz2, View.ld_unit_zero (S := S1x1) hz2,
    View.ld_unit_zero (S := S1x1) hz2, View.ld_unit_zero (S := S3072x3072) hz2]
  exact pay2_eq _ _ _ _ i

/-- A scalar as a one by one array keeps its entry. -/
theorem cast_one (x : Vec Ideal S_ .f32) (i : S1x1.Idx) : shapeCast S1x1 x shapeCasts_S_S1x1 i = x i0 := congrArg x (idx_S _ _)

/-- So does a product of two scalars. -/
theorem cast_mul (x y : Vec Ideal S_ .f32) (i : S1x1.Idx) :
    shapeCast S1x1 (mulf (F := Ideal) (φ := .f32) x y) shapeCasts_S_S1x1 i = x i0 * y i0 := cast_one _ i

/-- Scaled products of equal operands are equal. -/
theorem linear_eq (p : S6144x3072.Idx → EReal) (inv inv' s s' : EReal) (w w' : Cert.Value.SW.Idx → EReal) (hi : inv = inv') (hs : s = s')
    (hw : w = w') : Cert.Value.linearOf (rCodes p inv) w s = Cert.Value.linearOf (rCodes p inv') w' s' := by
  subst hi hs hw
  rfl

/-- The one index of a one by one array. -/
abbrev j0 : S1x1.Idx := Shape.Idx.first (s := S1x1) (by decide)

/-- The codes stored at the one grid point. -/
theorem out_codes (c : Dev nD) (t : Fin cfg0.N) :
    out0_5 (iblk m c 0 t) (iblk m c 1 t) (iblk m c 2 t) (iblk m c 3 t) = codesV m c := by
  refine (out5_eq _ _ _ _ j0).trans ?_
  rw [iblk_0_eq, iblk_1_eq, cast_one]
  unfold codesV
  rfl

/-- The products stored at the one grid point. -/
theorem out_linear (c : Dev nD) (t : Fin cfg0.N) :
    out0_4 (iblk m c 0 t) (iblk m c 1 t) (iblk m c 2 t) (iblk m c 3 t) = linearV m c := by
  refine (out4_eq _ _ _ _ j0).trans ?_
  rw [iblk_0_eq]
  unfold linearV codesV
  exact linear_eq _ _ _ _ _ _ _ ((congrFun (iblk_1_eq m c t) j0).trans (cast_one _ j0))
    ((congrFun (iblk_2_eq m c t) j0).trans (cast_mul _ _ j0)) (iblk_3_eq m c t)

/-- What is written back to the products. -/
theorem flushed_4 (c : Dev nD) (t : Fin cfg0.N) :
    (dats m 0 c).flushed 4 t = ((cfg0.win 4).blk t).view.read (Elt Ideal) (linearV m c) := by
  show (cfg0.win 4).cut (grid0.coords t) ((dats m 0 c).after 4 t) = _
  rw [after0_4, out_linear]
  exact (read_4 t (linearV m c)).symm

/-- What is written back to the codes. -/
theorem flushed_5 (c : Dev nD) (t : Fin cfg0.N) :
    (dats m 0 c).flushed 5 t = ((cfg0.win 5).blk t).view.read (Elt Ideal) (codesV m c) := by
  show (cfg0.win 5).cut (grid0.coords t) ((dats m 0 c).after 5 t) = _
  rw [after0_5, out_codes]
  exact (read_5 t (codesV m c)).symm

/-- The region's one point. -/
abbrev pt : Fin cfg0.N := ⟨0, by rw [show cfg0.N = 1 from N_0]; decide⟩

/-- The products' array ends holding the scaled product of codes and weight codes. -/
theorem final_4 (c : Dev nD) : (dats m 0 c).arrAt 4 cfg0.N = linearV m c :=
  (dats m 0 c).arrAt_eq_of_cover 4 (linearV m c) (fun t _ => flushed_4 m c t) fun i =>
    ⟨pt, flush0_4 _, by
      show i ∈ ((View.whole main_v50_0).slice (win0_4.rect pt)).set
      rw [View.set_slice_whole, Rect.mem_set_unit]
      intro a
      have h0 : (i 0 : Nat) < 6144 := (i 0).isLt
      have h1 : (i 1 : Nat) < 3072 := (i 1).isLt
      match a with
      | ⟨0, _⟩ => show win0_4.index pt 0 * 6144 ≤ (i 0 : Nat) ∧ (i 0 : Nat) < win0_4.index pt 0 * 6144 + 6144
                  rw [(index0_4 _).1]; omega
      | ⟨1, _⟩ => show win0_4.index pt 1 * 3072 ≤ (i 1 : Nat) ∧ (i 1 : Nat) < win0_4.index pt 1 * 3072 + 3072
                  rw [(index0_4 _).2]; omega⟩

/-- The codes' array ends holding the codes. -/
theorem final_5 (c : Dev nD) : (dats m 0 c).arrAt 5 cfg0.N = codesV m c :=
  (dats m 0 c).arrAt_eq_of_cover 5 (codesV m c) (fun t _ => flushed_5 m c t) fun i =>
    ⟨pt, flush0_5 _, by
      show i ∈ ((View.whole main_v50_1).slice (win0_5.rect pt)).set
      rw [View.set_slice_whole, Rect.mem_set_unit]
      intro a
      have h0 : (i 0 : Nat) < 6144 := (i 0).isLt
      have h1 : (i 1 : Nat) < 3072 := (i 1).isLt
      match a with
      | ⟨0, _⟩ => show win0_5.index pt 0 * 6144 ≤ (i 0 : Nat) ∧ (i 0 : Nat) < win0_5.index pt 0 * 6144 + 6144
                  rw [(index0_5 _).1]; omega
      | ⟨1, _⟩ => show win0_5.index pt 1 * 3072 ≤ (i 1 : Nat) ∧ (i 1 : Nat) < win0_5.index pt 1 * 3072 + 3072
                  rw [(index0_5 _).2]; omega⟩

end Cert.ReferenceIdeal.Value

end
-- ==== Proof.Value.RResult.lean ====
/- The reference's run, with its three results read as functions of its arguments. -/
module

public import proofs.«01_k».proof.Proof.Value.RRegion

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.Sem

section AnyF
variable {F : FTy → Type} [FloatOps F]

/-- The operations after the region regroup the products by batch. -/
theorem tail_y (X : Valuation τ sig (Elt F)) : StableHlo.after (List.flatten [hostOps1]) X (Proc.devRef .tc main_v51) =
    shapeCast S4x1536x3072 (X (Proc.devRef .tc main_v50_0) : Vec F S6144x3072 .bf16) shapeCasts_S6144x3072_S4x1536x3072 := by
  after_reads_simp
  rfl

/-- They regroup the codes by batch. -/
theorem tail_codes (X : Valuation τ sig (Elt F)) : StableHlo.after (List.flatten [hostOps1]) X (Proc.devRef .tc main_v52) =
    shapeCast S4x1536x3072 (X (Proc.devRef .tc main_v50_1) : Vec F S6144x3072 .fp8e4m3) shapeCasts_S6144x3072_S4x1536x3072 := by
  after_reads_simp
  rfl

/-- They leave the scale. -/
theorem tail_scale (X : Valuation τ sig (Elt F)) : StableHlo.after (List.flatten [hostOps1]) X (Proc.devRef .tc main_v39) =
    X (Proc.devRef .tc main_v39) := by
  after_reads_simp

end AnyF

variable (m : (ℓ : Loc nD τ sig) → Buf (Elt Ideal) ℓ) (ρ : Dev nD → PrngReg)

/-- After the region the products' array holds what the region left. -/
theorem arr_4 (c : Dev nD) (A : (w : Fin cfg0.W) → Buf (Elt Ideal) ((spec0 w).arr.view.loc (c.tc : Thread nD τ))) (X : Valuation τ sig (Elt Ideal)) :
    Pipeline.withArrays spec0 c X A (Proc.devRef .tc main_v50_0) = A 4 :=
  Pipeline.withArrays_arr spec0 launch0.win.arr_inj c X A 4

/-- After the region the codes' array holds what the region left. -/
theorem arr_5 (c : Dev nD) (A : (w : Fin cfg0.W) → Buf (Elt Ideal) ((spec0 w).arr.view.loc (c.tc : Thread nD τ))) (X : Valuation τ sig (Elt Ideal)) :
    Pipeline.withArrays spec0 c X A (Proc.devRef .tc main_v50_1) = A 5 :=
  Pipeline.withArrays_arr spec0 launch0.win.arr_inj c X A 5

/-- The first result, at the end. -/
theorem end_y (c : Dev nD) : Pipeline.afterTail₀ cfgs (dats m) 0 (V0 m) [hostOps1] c main_v51 =
    shapeCast S4x1536x3072 (linearV m c : Vec Ideal S6144x3072 .bf16) shapeCasts_S6144x3072_S4x1536x3072 := by
  unfold Pipeline.afterTail₀
  refine (tail_y _).trans ?_
  refine congrArg (fun x : Vec Ideal S6144x3072 .bf16 => shapeCast S4x1536x3072 x shapeCasts_S6144x3072_S4x1536x3072) ?_
  exact (arr_4 c _ _).trans (final_4 m c)

/-- The second result, at the end. -/
theorem end_codes (c : Dev nD) : Pipeline.afterTail₀ cfgs (dats m) 0 (V0 m) [hostOps1] c main_v52 =
    shapeCast S4x1536x3072 (codesV m c : Vec Ideal S6144x3072 .fp8e4m3) shapeCasts_S6144x3072_S4x1536x3072 := by
  unfold Pipeline.afterTail₀
  refine (tail_codes _).trans ?_
  refine congrArg (fun x : Vec Ideal S6144x3072 .fp8e4m3 => shapeCast S4x1536x3072 x shapeCasts_S6144x3072_S4x1536x3072) ?_
  exact (arr_5 c _ _).trans (final_5 m c)

/-- The third result, at the end. -/
theorem end_scale (c : Dev nD) : Pipeline.afterTail₀ cfgs (dats m) 0 (V0 m) [hostOps1] c main_v39 = rPow (rExp (rA m c)) := by
  unfold Pipeline.afterTail₀
  refine (tail_scale _).trans ?_
  refine (Pipeline.withArrays_of_ne spec0 c (V0 m c) _ main_v39 (by decide)).trans ?_
  exact V_scale m c

/-- Every weakly fair execution of the reference ends with its three results holding the scaled product, the codes and the
    scale of its arguments, and the arguments as launched. -/
theorem run_results : θ_run defs (onTc (τ := τ) (main (F := Ideal))) ⟨m, fun _ => 0, ρ⟩ (fun r => ∀ c : Dev nD,
      r.2.mem ((c.tc : Thread nD τ).loc main_v51) = shapeCast S4x1536x3072 (linearV m c : Vec Ideal S6144x3072 .bf16) shapeCasts_S6144x3072_S4x1536x3072
      ∧ r.2.mem ((c.tc : Thread nD τ).loc main_v52) = shapeCast S4x1536x3072 (codesV m c : Vec Ideal S6144x3072 .fp8e4m3) shapeCasts_S6144x3072_S4x1536x3072
      ∧ r.2.mem ((c.tc : Thread nD τ).loc main_v39) = rPow (rExp (rA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_v51 (Pipeline.mem_restRefs_of main_v51 (by decide) (by decide))).trans (end_y m c),
      ((h c).2 main_v52 (Pipeline.mem_restRefs_of main_v52 (by decide) (by decide))).trans (end_codes m c),
      ((h c).2 main_v39 (Pipeline.mem_restRefs_of main_v39 (by decide) (by decide))).trans (end_scale m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c)⟩) (run_main m ρ)

end Cert.ReferenceIdeal.Value

end
-- ==== Proof.Value.Power.lean ====
/- The scale. The kernel counts the powers of two that reach no further than `t` and the reference takes the largest exponent of such a
   power; both give the same exponent, and both spell the same power of two from it. -/
module

public import proofs.«01_k».proof.Proof.Value.RResult
public import Idealize.ShloMosaic.Lib.SortNet.Extract
public import Mathlib.Data.BitVec

@[expose] public section

set_option maxRecDepth 16384

noncomputable section

namespace Cert.Value

open Idealize.ShloMosaic

/-! ### The powers of two, in order -/

/-- The word whose exponent field is `j + 1` and whose fraction is zero. -/
def fieldWord (j : Nat) : BitVec 32 := IntOp.shli .host (1#32 + BitVec.ofNat 32 j) 23#32

/-- The power of two it denotes: `2 ^ (j - 126)` for `j < 254`, infinity for `j = 254`. -/
def pow2 (j : Nat) : EReal := Ideal.ofBits .f32 (fieldWord j)

/-- The three fields of the word: no sign, exponent field `j + 1`, no fraction. -/
theorem fieldWord_fields : ∀ j : Fin 255, (fieldWord j.val).extractLsb' 31 1 = 0#1 ∧ ((fieldWord j.val).extractLsb' 23 8).toNat = j.val + 1 ∧
    ((fieldWord j.val).extractLsb' 0 23).toNat = 0 := by decide +kernel

/-- The power of two by the fields of its word. -/
theorem pow2_eq (j : Nat) : pow2 j = Ideal.ieee 8 23 (fieldWord j) := by unfold pow2; rfl

/-- A word with no sign, the exponent field `x` of a normal number and no fraction is a power of two. -/
theorem ieee_pow (b : BitVec 32) (x : Nat) (h1 : b.extractLsb' 31 1 = 0#1) (h2 : (b.extractLsb' 23 8).toNat = x)
    (h3 : (b.extractLsb' 0 23).toNat = 0) (hx0 : x ≠ 0) (hx : x ≠ 255) : Ideal.ieee 8 23 b = (((2 : ℝ) ^ ((x : ℤ) - 127) : ℝ) : EReal) := by
  unfold Ideal.ieee
  simp only [show (8 + 23 : Nat) = 31 from rfl, h1, h2, h3]
  rw [if_neg (by simpa using hx), if_neg hx0]
  congr 1
  have e : (x : ℤ) - (2 ^ (8 - 1) - 1) - ((23 : Nat) : ℤ) = ((x : ℤ) - 127) - 23 := by push_cast; ring
  rw [e, zpow_sub₀ (by norm_num : (2 : ℝ) ≠ 0)]
  norm_num
  ring

/-- Below infinity the power of two is a real number. -/
theorem pow2_finite (j : Nat) (h : j < 254) : pow2 j = (((2 : ℝ) ^ ((j : ℤ) - 126) : ℝ) : EReal) := by
  obtain ⟨h1, h2, h3⟩ := fieldWord_fields ⟨j, by omega⟩
  rw [pow2_eq, ieee_pow (fieldWord j) (j + 1) h1 h2 h3 (by omega) (by omega)]
  rw [show ((j + 1 : Nat) : ℤ) - 127 = (j : ℤ) - 126 by push_cast; ring]

/-- The last one is infinity. -/
theorem pow2_top : pow2 254 = ⊤ := by
  rw [pow2_eq, show fieldWord 254 = 0x7F800000#32 by decide +kernel]
  simp [Ideal.ieee]

/-- The powers of two ascend. -/
theorem pow2_mono (i j : Nat) (hij : i ≤ j) (h : j < 255) : pow2 i ≤ pow2 j := by
  rcases Nat.lt_or_ge j 254 with hj | hj
  · rw [pow2_finite i (by omega), pow2_finite j hj]
    exact EReal.coe_le_coe_iff.mpr (zpow_le_zpow_right₀ (by norm_num) (by omega))
  · rw [show j = 254 by omega, pow2_top]
    exact le_top

/-- The powers of two that reach no further than `t` are the first `N` of the 255, for one `N`. -/
theorem exists_count (t : EReal) : ∃ N : Nat, N ≤ 255 ∧ ∀ j, j < 255 → (pow2 j ≤ t ↔ j < N) := by
  classical
  have hex : ∃ n, n = 255 ∨ ¬ pow2 n ≤ t := ⟨255, Or.inl rfl⟩
  refine ⟨Nat.find hex, Nat.find_min' hex (Or.inl rfl), fun j hj => ⟨fun hle => ?_, fun hlt => ?_⟩⟩
  · by_contra hn
    rcases Nat.find_spec hex with hs | hs
    · omega
    · exact hs ((pow2_mono _ j (by omega) hj).trans hle)
  · have := Nat.find_min hex hlt
    by_contra hn
    exact this (Or.inr hn)

/-- The exponent the count `n` stands for, zero when the count is none or all. -/
def expWord (n : Nat) : BitVec 32 := if n = 0 ∨ n = 255 then 0#32 else BitVec.ofNat 32 n - 126#32

/-- A number below 256 of ones and otherwise zeros sums to itself. -/
theorem card_below : ∀ N : Fin 256, (Finset.univ.filter fun j : Fin 255 => j.val < N.val).card = N.val := by decide +kernel

/-- 255 words, the first `N` of them one and the others zero, sum to `N`. -/
theorem sum_below (N : Nat) (hN : N ≤ 255) (f : Fin 255 → BitVec 32) (hf : ∀ j, f j = if j.val < N then 1#32 else 0#32) :
    ∑ j, f j = BitVec.ofNat 32 N := by
  rw [Finset.sum_congr rfl fun j _ => hf j]
  have h := Finset.sum_boole (R := BitVec 32) (fun j : Fin 255 => j.val < N) Finset.univ
  rw [card_below ⟨N, by omega⟩] at h
  exact h

/-- The words of one comparison. -/
theorem cmp_oge (x y : EReal) : Ideal.cmp .oge x y = BitVec.ofBool (decide (y ≤ x)) := rfl
theorem cmp_ole (x y : EReal) : Ideal.cmp .ole x y = BitVec.ofBool (decide (x ≤ y)) := rfl
theorem cmp_olt (x y : EReal) : Ideal.cmp .olt x y = BitVec.ofBool (decide (x < y)) := rfl

end Cert.Value

/-! ### The kernel's exponent -/

namespace Cert.KernelIdeal.Value

open Cert.KernelIdeal Cert.KernelIdeal.Gen
open Idealize.ShloMosaic Idealize.ShloMosaic.ValueIdx

/-- The kernel's count is `N`. -/
theorem kCount_eq (t : Vec Ideal S_ .f32) (N : Nat) (hN : N ≤ 255) (h : ∀ j, j < 255 → (Cert.Value.pow2 j ≤ t i0 ↔ j < N)) :
    kCount (F := Ideal) t i0 = BitVec.ofNat 32 N := by
  have hel : ∀ i : S255.Idx, (extui 32 (cmpf .oge (broadcastInDim S255 ![] bcast_S_S255 t)
    (bitcastToFloat (F := Ideal) .f32 (Host.shli (addi (broadcastInDim S255 ![] bcast_S_S255 (constantI S_ 32 1#32)) (iotaInDim S255 32 0))
      (broadcastInDim S255 ![] bcast_S_S255 (constantI S_ 32 23#32))))) natLt_1_32 : IVec S255 32) i = if (i 0).val < N then 1#32 else 0#32 := by
    intro i
    have hi : (i 0).val < 255 := (i 0).isLt
    have e : broadcastInDim S255 ![] bcast_S_S255 t i = t i0 := congrArg t (idx_S _ _)
    show (Ideal.cmp .oge (broadcastInDim S255 ![] bcast_S_S255 t i) (Cert.Value.pow2 (i 0).val)).setWidth 32 = _
    rw [e, Cert.Value.cmp_oge]
    by_cases hc : (i 0).val < N
    · rw [if_pos hc, decide_eq_true ((h _ hi).mpr hc)]; rfl
    · rw [if_neg hc, decide_eq_false (fun hle => hc ((h _ hi).mp hle))]; rfl
  unfold kCount
  rw [Host.reduce_eq_fold]
  rw [Finset.filter_true_of_mem (fun i _ => idx_S _ _)]
  have hs : ∀ g : S255.Idx → BitVec 32, Finset.univ.fold IntOp.addi 0#32 g = ∑ i, g i := fun g => rfl
  refine (hs _).trans ?_
  rw [Finset.sum_congr rfl fun i _ => hel i]
  rw [← Cert.Value.sum_below N hN _ (fun j => rfl)]
  exact (Fintype.sum_equiv (⟨ix1, fun i => i 0, fun _ => rfl, fun i => funext fun a => match a with | ⟨0, _⟩ => rfl⟩ : Fin 255 ≃ S255.Idx) _ _ fun j => rfl).symm

/-- The exponent words of every count. -/
theorem kExpOf_words : ∀ n : Fin 256, Scalar.select (IntOp.ori (IntOp.cmpi .eq (BitVec.ofNat 32 n.val) 0#32) (IntOp.cmpi .eq (BitVec.ofNat 32 n.val) 255#32))
    0#32 (IntOp.subi (BitVec.ofNat 32 n.val) 126#32) = Cert.Value.expWord n.val := by decide +kernel

/-- The kernel's exponent of an amplitude whose count is `N`. -/
theorem kExp_eq (a : Vec Ideal S_ .f32) (N : Nat) (hN : N ≤ 255)
    (h : ∀ j, j < 255 → (Cert.Value.pow2 j ≤ a i0 * Ideal.ofBits .f32 0x3B124925#32 ↔ j < N)) :
    kExp (F := Ideal) a i0 = Scalar.select (Ideal.cmp .oeq (a i0) (Ideal.ofBits .f32 0x00000000#32)) 0#32 (Cert.Value.expWord N) := by
  have hc := kCount_eq (mulf (F := Ideal) (φ := .f32) a (constant S_ .f32 0x3B124925#32)) N hN h
  rw [← kExpOf_words ⟨N, by omega⟩]
  dsimp only
  rw [← hc]
  rfl

/-- The words of the kernel's power of two. -/
def kPowWord (e : BitVec 32) : BitVec 32 := IntOp.shli .host (IntOp.minsi 255#32 (IntOp.maxsi 0#32 (e + 127#32))) 23#32

/-- The kernel's power of two is what its word denotes. -/
theorem kPow_apply (e : Vec Ideal S_ .i32) : kPow (F := Ideal) e i0 = Ideal.ofBits .f32 (kPowWord (e i0)) := rfl

end Cert.KernelIdeal.Value

/-! ### The reference's exponent -/

namespace Cert.ReferenceIdeal.Value

open Cert.ReferenceIdeal Cert.ReferenceIdeal.Gen
open Idealize.ShloMosaic Idealize.ShloMosaic.ValueIdx

/-- The exponent word of entry `j`. -/
def kWord (j : Nat) : BitVec 32 := 4294967170#32 + BitVec.ofNat 32 j

/-- Every exponent of the list is in the normal range; it is `j - 126`, and one more than it is `j - 125`. -/
theorem kWord_facts : ∀ j : Fin 254, IntOp.cmpi .slt (kWord j.val) 4294967170#32 = 0#1 ∧ IntOp.cmpi .sgt (kWord j.val) 127#32 = 0#1 ∧
    (kWord j.val).toInt = (j.val : ℤ) - 126 ∧ (kWord j.val + 1#32).toInt = (j.val : ℤ) - 125 := by decide +kernel

/-- The word of two denotes two. -/
theorem ofBits_two : Ideal.ofBits .f32 0x40000000#32 = ((2 : ℝ) : EReal) := by
  have h := Cert.Value.pow2_finite 127 (by decide)
  unfold Cert.Value.pow2 at h
  rw [show Cert.Value.fieldWord 127 = 0x40000000#32 by decide +kernel] at h
  rw [h]
  norm_num

/-- Two to the power of the exponent `j - 126` is what the word with exponent field `j + 1` denotes. -/
theorem power_eq (e : BitVec 32) (j : Nat) (hj : j < 254) (he : e.toInt = (j : ℤ) - 126) :
    Ideal.pow (Ideal.ofBits .f32 0x40000000#32) ((e.toInt : ℝ) : EReal) = Cert.Value.pow2 j := by
  rw [ofBits_two, Cert.Value.pow2_finite j hj, he]
  exact congrArg (fun x : ℝ => (x : EReal)) (Real.rpow_intCast 2 _)

/-- Entry `j` of the reference's powers is the power with exponent field `j + 1`. -/
theorem rPows_apply (i : S254.Idx) : rPows (F := Ideal) i = Cert.Value.pow2 (i 0).val := by
  obtain ⟨h1, h2, h3, -⟩ := kWord_facts (i 0)
  show Scalar.select (IntOp.cmpi .slt (kWord (i 0).val) 4294967170#32) _ (Scalar.select (IntOp.cmpi .sgt (kWord (i 0).val) 127#32) _
    (Ideal.pow (Ideal.ofBits .f32 0x40000000#32) (((kWord (i 0).val).toInt : ℝ) : EReal))) = _
  rw [h1, h2, power_eq _ _ (i 0).isLt h3]
  rfl

/-- A count less 126, as a signed number. -/
theorem count_toInt : ∀ n : Fin 256, (BitVec.ofNat 32 n.val - 126#32).toInt = (n.val : ℤ) - 126 := by decide +kernel

/-- The largest exponent, at a count that is neither none nor all. -/
theorem rTop_eq (t : Vec Ideal S_ .f32) (N : Nat) (h0 : 0 < N) (hN : N < 255) (h : ∀ j, j < 255 → (Cert.Value.pow2 j ≤ t i0 ↔ j < N)) :
    rTop (F := Ideal) t i0 = BitVec.ofNat 32 N - 126#32 := by
  let g : S254.Idx → BitVec 32 := select (cmpf (F := Ideal) (φ := .f32) .ole (rPows (F := Ideal)) (broadcastInDim S254 ![] bcast_S_S254 t))
    (addi (rKs (F := Ideal)) (broadcastInDim S254 ![] bcast_S_S254 (constantI S_ 32 1#32)))
    (broadcastInDim S254 ![] bcast_S_S254 (constantI S_ 32 4294967170#32))
  have hel : ∀ i : S254.Idx, g i = if (i 0).val < N then kWord (i 0).val + 1#32 else 4294967170#32 := by
    intro i
    have hi : (i 0).val < 254 := (i 0).isLt
    have e : (broadcastInDim S254 ![] bcast_S_S254 t : Vec Ideal S254 .f32) i = t i0 := congrArg t (idx_S _ _)
    show Scalar.select (Ideal.cmp .ole (rPows (F := Ideal) i) ((broadcastInDim S254 ![] bcast_S_S254 t : Vec Ideal S254 .f32) i)) (kWord (i 0).val + 1#32) 4294967170#32 = _
    rw [e, rPows_apply, Cert.Value.cmp_ole]
    by_cases hc : (i 0).val < N
    · rw [if_pos hc, decide_eq_true ((h _ (by omega)).mpr hc)]; rfl
    · rw [if_neg hc, decide_eq_false (fun hle => hc ((h _ (by omega)).mp hle))]; rfl
  have hr : rTop (F := Ideal) t i0 = Finset.univ.fold IntOp.maxsi 2147483648#32 g := by
    unfold rTop
    rw [Host.reduce_eq_fold]
    rw [Finset.filter_true_of_mem (fun i _ => idx_S _ _)]
    rfl
  classical
  obtain ⟨-, hub, hat⟩ := SortNet.fold_maxsi_spec g Finset.univ 2147483648#32
  rw [← hr] at hub hat
  apply BitVec.eq_of_toInt_eq
  rw [count_toInt ⟨N, by omega⟩]
  have lower : (N : ℤ) - 126 ≤ (rTop (F := Ideal) t i0).toInt := by
    have := hub (ix1 ⟨N - 1, by omega⟩) (Finset.mem_univ _)
    rw [hel, if_pos (by show N - 1 < N; omega)] at this
    have k := (kWord_facts ⟨N - 1, by omega⟩).2.2.2
    have e : ((ix1 (⟨N - 1, by omega⟩ : Fin 254)) 0).val = N - 1 := rfl
    rw [e] at this
    dsimp only at k
    omega
  refine le_antisymm ?_ lower
  rcases hat with hat | ⟨i, -, hat⟩
  · rw [hat]
    have : (2147483648#32).toInt = -2147483648 := by decide
    rw [this]; dsimp only; omega
  · rw [hat, hel]
    by_cases hc : (i 0).val < N
    · rw [if_pos hc, (kWord_facts (i 0)).2.2.2]; dsimp only; omega
    · rw [if_neg hc]
      have : (4294967170#32).toInt = -126 := by decide
      rw [this]; dsimp only; omega

/-- The first and the last of the 255 words. -/
theorem fieldWord_0 : Cert.Value.fieldWord 0 = 0x00800000#32 := by decide +kernel
theorem fieldWord_254 : Cert.Value.fieldWord 254 = 0x7F800000#32 := by decide +kernel

/-- The reference's exponent at count `N`. -/
theorem rFrexp_eq (t : Vec Ideal S_ .f32) (N : Nat) (hN : N ≤ 255) (h : ∀ j, j < 255 → (Cert.Value.pow2 j ≤ t i0 ↔ j < N)) :
    rFrexp (F := Ideal) t i0 = Cert.Value.expWord N := by
  show Scalar.select (IntOp.andi (Ideal.cmp .oge (t i0) (Ideal.ofBits .f32 0x00800000#32)) (Ideal.cmp .olt (t i0) (Ideal.ofBits .f32 0x7F800000#32)))
    (rTop (F := Ideal) t i0) 0#32 = _
  rw [← fieldWord_0, ← fieldWord_254]
  show Scalar.select (IntOp.andi (Ideal.cmp .oge (t i0) (Cert.Value.pow2 0)) (Ideal.cmp .olt (t i0) (Cert.Value.pow2 254))) (rTop (F := Ideal) t i0) 0#32 = _
  rw [Cert.Value.cmp_oge, Cert.Value.cmp_olt]
  unfold Cert.Value.expWord
  by_cases hz : N = 0
  · rw [if_pos (Or.inl hz), decide_eq_false (fun hle => by have := (h 0 (by omega)).mp hle; omega)]
    generalize decide (t i0 < Cert.Value.pow2 254) = b
    cases b <;> rfl
  · rw [decide_eq_true ((h 0 (by omega)).mpr (by omega))]
    by_cases ha : N = 255
    · rw [if_pos (Or.inr ha), decide_eq_false (not_lt.mpr ((h 254 (by omega)).mpr (by omega)))]; rfl
    · rw [if_neg (by omega), decide_eq_true (not_le.mp fun hle => by have := (h 254 (by omega)).mp hle; omega), rTop_eq t N (by omega) (by omega) h]
      rfl

/-- The reference's exponent of an amplitude whose count is `N`. -/
theorem rExp_eq (a : Vec Ideal S_ .f32) (N : Nat) (hN : N ≤ 255)
    (h : ∀ j, j < 255 → (Cert.Value.pow2 j ≤ a i0 * Ideal.ofBits .f32 0x3B124925#32 ↔ j < N)) :
    rExp (F := Ideal) a i0 = Scalar.select (Ideal.cmp .oeq (a i0) (Ideal.ofBits .f32 0x00000000#32)) 0#32 (Cert.Value.expWord N) := by
  have hc := rFrexp_eq (mulf (F := Ideal) (φ := .f32) a (constant S_ .f32 0x3B124925#32)) N hN h
  rw [← hc]
  rfl

/-- The reference's power of two of one exponent: two to its power, zero below the normal range and infinity above it. -/
def rPowAt (e : BitVec 32) : EReal := Scalar.select (IntOp.cmpi .slt e 4294967170#32) (Ideal.ofBits .f32 0x00000000#32)
  (Scalar.select (IntOp.cmpi .sgt e 127#32) (Ideal.ofBits .f32 0x7F800000#32) (Ideal.pow (Ideal.ofBits .f32 0x40000000#32) ((e.toInt : ℝ) : EReal)))

/-- The reference's power of two, by its exponent. -/
theorem rPow_apply (e : Vec Ideal S_ .i32) : rPow (F := Ideal) e i0 = rPowAt (e i0) := rfl

end Cert.ReferenceIdeal.Value

/-! ### The two scales -/

namespace Cert.Value

open Idealize.ShloMosaic

/-- The exponents from -256 to 255: below the normal range the kernel's word is zero, above it infinity's, and in it the word whose
    exponent field is the exponent and 127. -/
theorem powWord_cases : ∀ j : Fin 512,
    (IntOp.cmpi .slt (BitVec.ofNat 32 j.val - 256#32) 4294967170#32 = 1#1 ∧ KernelIdeal.Value.kPowWord (BitVec.ofNat 32 j.val - 256#32) = 0x00000000#32) ∨
    (IntOp.cmpi .slt (BitVec.ofNat 32 j.val - 256#32) 4294967170#32 = 0#1 ∧ IntOp.cmpi .sgt (BitVec.ofNat 32 j.val - 256#32) 127#32 = 1#1 ∧
      KernelIdeal.Value.kPowWord (BitVec.ofNat 32 j.val - 256#32) = 0x7F800000#32) ∨
    (IntOp.cmpi .slt (BitVec.ofNat 32 j.val - 256#32) 4294967170#32 = 0#1 ∧ IntOp.cmpi .sgt (BitVec.ofNat 32 j.val - 256#32) 127#32 = 0#1 ∧
      KernelIdeal.Value.kPowWord (BitVec.ofNat 32 j.val - 256#32) = fieldWord (j.val - 130) ∧ j.val - 130 < 254 ∧
      (BitVec.ofNat 32 j.val - 256#32).toInt = ((j.val - 130 : Nat) : ℤ) - 126) := by decide +kernel

/-- On those exponents the two programs have the same power of two. -/
theorem pow_eq (j : Nat) (hj : j < 512) : Ideal.ofBits .f32 (KernelIdeal.Value.kPowWord (BitVec.ofNat 32 j - 256#32)) =
    ReferenceIdeal.Value.rPowAt (BitVec.ofNat 32 j - 256#32) := by
  unfold ReferenceIdeal.Value.rPowAt
  rcases powWord_cases ⟨j, hj⟩ with ⟨h1, h2⟩ | ⟨h1, h2, h3⟩ | ⟨h1, h2, h3, h4, h5⟩
  · dsimp only at h1 h2
    rw [h1, h2]; rfl
  · dsimp only at h1 h2 h3
    rw [h1, h2, h3]; rfl
  · dsimp only at h1 h2 h3 h4 h5
    rw [h1, h2, h3, ReferenceIdeal.Value.power_eq _ _ h4 h5]; rfl

/-- The exponent of every count, and its negative, are among them. -/
theorem expWord_range : ∀ n : Fin 256, expWord n.val = BitVec.ofNat 32 (if n.val = 0 ∨ n.val = 255 then 256 else n.val + 130) - 256#32 ∧
    -expWord n.val = BitVec.ofNat 32 (if n.val = 0 ∨ n.val = 255 then 256 else 382 - n.val) - 256#32 := by decide +kernel

/-- The two programs' powers of two agree at the exponent of every count and at its negative. -/
theorem pow_expWord (n : Nat) (hn : n ≤ 255) :
    Ideal.ofBits .f32 (KernelIdeal.Value.kPowWord (expWord n)) = ReferenceIdeal.Value.rPowAt (expWord n) ∧
      Ideal.ofBits .f32 (KernelIdeal.Value.kPowWord (-expWord n)) = ReferenceIdeal.Value.rPowAt (-expWord n) := by
  obtain ⟨h1, h2⟩ := expWord_range ⟨n, by omega⟩
  dsimp only at h1 h2
  rw [h2, h1]
  exact ⟨pow_eq _ (by split <;> omega), pow_eq _ (by split <;> omega)⟩

end Cert.Value

end
-- ==== Proof.Value.Equation.lean ====
/- The two programs' results are equal: the same gated products, the same amplitude, the same scale, hence the same codes and the
   same products with the weights. -/
module

public import proofs.«01_k».proof.Proof.Value.Power

@[expose] public section

set_option maxRecDepth 16384

noncomputable section

namespace Cert.ReferenceIdeal.Value

open Cert.ReferenceIdeal Cert.ReferenceIdeal.Gen
open Idealize.ShloMosaic Idealize.ShloMosaic.TcCoe

/-- The word of one denotes one. -/
theorem ofBits_one : Ideal.ofBits .f32 0x3F800000#32 = 1 := by
  have h := Cert.Value.pow2_finite 126 (by decide)
  unfold Cert.Value.pow2 at h
  rw [show Cert.Value.fieldWord 126 = 0x3F800000#32 by decide +kernel] at h
  rw [h]
  norm_num

/-- The gate half at product entry `i`. -/
theorem rGate_apply (h : Cert.Value.SH.Idx → EReal) (i : Cert.Value.SP.Idx) : rGate (F := Ideal) h i = h (Cert.Value.gateIdx i) := by
  show extractStridedSlice S6144x3072 ![0, 0] h slices_S6144x6144_S6144x3072_0_0 i = _
  refine extractStridedSlice_apply _ h _ _ _ fun a => ?_
  match a with
  | ⟨0, _⟩ => exact (Nat.zero_add _).symm
  | ⟨1, _⟩ => exact (Nat.zero_add _).symm

/-- The up half at product entry `i`. -/
theorem rUp_apply (h : Cert.Value.SH.Idx → EReal) (i : Cert.Value.SP.Idx) : rUp (F := Ideal) h i = h (Cert.Value.upIdx i) := by
  show extractStridedSlice S6144x3072 ![0, 3072] h slices_S6144x6144_S6144x3072_0_3072 i = _
  refine extractStridedSlice_apply _ h _ _ _ fun a => ?_
  match a with
  | ⟨0, _⟩ => exact (Nat.zero_add _).symm
  | ⟨1, _⟩ => rfl

/-- The reference's gated product, entry by entry. -/
theorem rProd_apply (h : Cert.Value.SH.Idx → EReal) (i : Cert.Value.SP.Idx) :
    rProd (F := Ideal) h i = Cert.Value.prod (h (Cert.Value.gateIdx i)) (h (Cert.Value.upIdx i)) := by
  show rGate (F := Ideal) h i * Ideal.div (Ideal.ofBits .f32 0x3F800000#32) (Ideal.ofBits .f32 0x3F800000#32 + Ideal.exp (-(rGate (F := Ideal) h i))) *
    rUp (F := Ideal) h i = _
  rw [ofBits_one, rGate_apply, rUp_apply]
  rfl

/-- The reference's codes are the codes of the rows. -/
theorem rCodes_eq (h : Cert.Value.SH.Idx → EReal) (inv : EReal) : rCodes (rProd (F := Ideal) h) inv = Cert.Value.codesOf h inv := by
  funext i
  show min _ (max _ (rProd (F := Ideal) h i * inv)) = _
  rw [rProd_apply]
  rfl

/-- A maximum of absolute values lies below `x` exactly when `x` is not negative and every absolute value does. -/
theorem rAmax_le (p : Vec Ideal S6144x3072 .f32) (x : EReal) : rAmax (F := Ideal) p i0 ≤ x ↔ ∀ i, max (p i) (-p i) ≤ x := by
  unfold rAmax
  refine (iff_of_eq (congrArg (· ≤ x) (Host.reduce_eq_fold (FloatOps.maximumf (F := Ideal) (φ := .f32)) (Host.absf p)
    (constant S_ .f32 0xFF800000#32) reducesTo_S6144x3072_S_d0_1 h_S_ i0))).trans ?_
  rw [Cert.Value.fold_le]
  constructor
  · intro h j
    exact h.2 j (Finset.mem_filter.mpr ⟨Finset.mem_univ _, idx_S _ _⟩)
  · intro h
    exact ⟨le_of_eq_of_le Cert.Value.ofBits_bot bot_le, fun i _ => h i⟩

/-- The reference's amplitude lies below `x` exactly when every absolute product of the rows does. -/
theorem amax_le (h : Cert.Value.SH.Idx → EReal) (x : EReal) :
    rAmax (F := Ideal) (rProd h) i0 ≤ x ↔ 0 ≤ x ∧ Cert.Value.Bounded h x := by
  rw [rAmax_le]
  constructor
  · intro hx
    have hb : Cert.Value.Bounded h x := fun i => by
      have := hx i
      rw [rProd_apply] at this
      exact this
    exact ⟨(Cert.Value.absProd_nonneg _ _).trans (hb (fun a => match a with
      | ⟨0, _⟩ => (⟨0, by decide⟩ : Fin 6144)
      | ⟨1, _⟩ => (⟨0, by decide⟩ : Fin 3072))), hb⟩
  · intro hx i
    rw [rProd_apply]
    exact hx.2 i

end Cert.ReferenceIdeal.Value

namespace Cert.Value

open Idealize.ShloMosaic

/-- Two extended reals below the same bounds are equal. -/
theorem eq_of_bounds {a b : EReal} (P : EReal → Prop) (ha : ∀ x, a ≤ x ↔ P x) (hb : ∀ x, b ≤ x ↔ P x) : a = b :=
  le_antisymm ((ha b).mpr ((hb b).mp le_rfl)) ((hb a).mpr ((ha a).mp le_rfl))

/-- At equal amplitudes the two programs have one scale and one inverse scale. -/
theorem scales_eq (a : Vec Ideal Cert.KernelIdeal.S_ .f32) (b : Vec Ideal Cert.ReferenceIdeal.S_ .f32)
    (h : a KernelIdeal.Value.i0 = b ReferenceIdeal.Value.i0) :
    KernelIdeal.Value.kPow (F := Ideal) (KernelIdeal.Value.kExp a) KernelIdeal.Value.i0 =
        ReferenceIdeal.Value.rPow (F := Ideal) (ReferenceIdeal.Value.rExp b) ReferenceIdeal.Value.i0 ∧
      KernelIdeal.Value.kPow (F := Ideal) (negi (KernelIdeal.Value.kExp a)) KernelIdeal.Value.i0 =
        ReferenceIdeal.Value.rPow (F := Ideal) (negi (ReferenceIdeal.Value.rExp b)) ReferenceIdeal.Value.i0 := by
  obtain ⟨N, hN, hc⟩ := exists_count (a KernelIdeal.Value.i0 * Ideal.ofBits .f32 0x3B124925#32)
  have hk := KernelIdeal.Value.kExp_eq a N hN hc
  have hr := ReferenceIdeal.Value.rExp_eq b N hN (by rw [← h]; exact hc)
  rw [← h] at hr
  rw [KernelIdeal.Value.kPow_apply, KernelIdeal.Value.kPow_apply, ReferenceIdeal.Value.rPow_apply, ReferenceIdeal.Value.rPow_apply]
  have nk : negi (KernelIdeal.Value.kExp (F := Ideal) a) KernelIdeal.Value.i0 = -(KernelIdeal.Value.kExp (F := Ideal) a KernelIdeal.Value.i0) := rfl
  have nr : negi (ReferenceIdeal.Value.rExp (F := Ideal) b) ReferenceIdeal.Value.i0 = -(ReferenceIdeal.Value.rExp (F := Ideal) b ReferenceIdeal.Value.i0) := rfl
  rw [nk, nr, hk, hr]
  have w := pow_expWord N hN
  have z := pow_expWord 0 (by omega)
  have e0 : expWord 0 = 0#32 := rfl
  rw [e0] at z
  generalize Ideal.cmp .oeq (a KernelIdeal.Value.i0) (Ideal.ofBits .f32 0x00000000#32) = c
  unfold Scalar.select
  split
  · exact z
  · exact w

end Cert.Value

end
-- ==== Proof.Value.Algebraic.lean ====
/- From memories agreeing on the three arguments, the idealized kernel and the idealized reference end with equal results. -/
module

public import proofs.«01_k».proof.Proof.Value.Equation
public import proofs.«01_k».proof.Defs

@[expose] public section

set_option maxRecDepth 16384

noncomputable section

namespace Cert.Value

open Idealize.ShloMosaic Idealize.ShloMosaic.TcCoe
open Cert.KernelIdeal.Value (rowsOf amp kPow kExp)
open Cert.ReferenceIdeal.Value (rRows rProd rAmax rPow rExp rP rA codesV linearV rCodes)

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- On equal first arguments the two programs read the same rows. -/
theorem rows_eq (h0 : m' ((c.tc : Thread Cert.ReferenceIdeal.nD Cert.ReferenceIdeal.τ).loc Cert.ReferenceIdeal.main_arg0) =
      m ((c.tc : Thread Cert.KernelIdeal.nD Cert.KernelIdeal.τ).loc Cert.KernelIdeal.main_arg0)) :
    (rRows (F := Ideal) (m' ((c.tc : Thread Cert.ReferenceIdeal.nD Cert.ReferenceIdeal.τ).loc Cert.ReferenceIdeal.main_arg0)) : SH.Idx → EReal) = rowsOf m c := by
  rw [h0]; rfl

/-- Hence they find the same amplitude. -/
theorem amps_eq (h0 : m' ((c.tc : Thread Cert.ReferenceIdeal.nD Cert.ReferenceIdeal.τ).loc Cert.ReferenceIdeal.main_arg0) =
      m ((c.tc : Thread Cert.KernelIdeal.nD Cert.KernelIdeal.τ).loc Cert.KernelIdeal.main_arg0)) :
    amp m g c KernelIdeal.Value.i0 = rA m' c ReferenceIdeal.Value.i0 := by
  refine eq_of_bounds (fun x => 0 ≤ x ∧ Bounded (rowsOf m c) x) (fun x => KernelIdeal.Value.amp_le m g c x) fun x => ?_
  rw [← rows_eq m m' c h0]
  exact ReferenceIdeal.Value.amax_le _ x

/-- Codes and products, from equal scales and equal arguments. -/
theorem codesV_eq (inv : EReal) (hinv : inv = rPow (F := Ideal) (negi (rExp (rA m' c))) ReferenceIdeal.Value.i0)
    (hr : (rRows (F := Ideal) (m' ((c.tc : Thread Cert.ReferenceIdeal.nD Cert.ReferenceIdeal.τ).loc Cert.ReferenceIdeal.main_arg0)) : SH.Idx → EReal) = rowsOf m c) :
    codesV m' c = codesOf (rowsOf m c) inv := by
  rw [hinv, ← hr]
  exact ReferenceIdeal.Value.rCodes_eq _ _

/-- Scaled products of equal codes, weights and scales are equal. -/
theorem linearOf_eq {cd cd' : SP.Idx → EReal} {w w' : SW.Idx → EReal} {s s' t t' : EReal} (h1 : cd = cd') (h2 : w = w') (h3 : s = s') (h4 : t = t') :
    linearOf cd w (s * t) = linearOf cd' w' (s' * t') := by rw [h1, h2, h3, h4]

/-- Equal arrays, regrouped by batch, are equal. -/
theorem regroup_eq {x y : SP.Idx → EReal} (h : x = y) :
    (shapeCast Cert.ReferenceIdeal.S4x1536x3072 x Cert.ReferenceIdeal.Gen.shapeCasts_S6144x3072_S4x1536x3072 : Cert.ReferenceIdeal.S4x1536x3072.Idx → EReal) =
      shapeCast Cert.KernelIdeal.S4x1536x3072 y Cert.KernelIdeal.Gen.shapeCasts_S6144x3072_S4x1536x3072 := by
  rw [h]

/-- A scalar vector is its one entry. -/
theorem scalar_eq {x : Cert.ReferenceIdeal.S_.Idx → EReal} {y : Cert.KernelIdeal.S_.Idx → EReal}
    (h : y KernelIdeal.Value.i0 = x ReferenceIdeal.Value.i0) : x = y :=
  funext fun i => ((congrArg x (ReferenceIdeal.Value.idx_S i _)).trans h.symm).trans (congrArg y (KernelIdeal.Value.idx_S _ i))

/-- The idealized kernel computes the idealized reference: from memories agreeing on the arguments both run, all three results are
    equal as extended reals, entry by entry, and the arguments end as launched. -/
theorem algebraic : Cert.algebraic_KernelIdeal_ReferenceIdeal := by
  intro m g m' g' _ hargs
  refine ⟨fun c => KernelIdeal.Gen.W13 m g c (Proc.devRef .tc KernelIdeal.main_v34), fun c => KernelIdeal.Gen.W13 m g c (Proc.devRef .tc KernelIdeal.main_v35),
    fun c => KernelIdeal.Gen.W13 m g c (Proc.devRef .tc KernelIdeal.main_v24), ?_, ?_⟩
  · exact (θ_run _ _ _).mono (fun _ h => h.1) (KernelIdeal.Value.run_results m g)
  · refine (θ_run _ _ _).mono (fun r h c => ?_) (ReferenceIdeal.Value.run_results m' g')
    obtain ⟨hy, hc, hs, ha0, ha1, ha2⟩ := h c
    obtain ⟨e0, e1, e2⟩ := hargs c
    obtain ⟨s1, s2⟩ := scales_eq (amp m g c) (rA m' c) (amps_eq m g m' c e0)
    have hcodes := codesV_eq m m' c _ s2 (rows_eq m m' c e0)
    refine ⟨?_, ?_, ?_, ha0, ha1, ha2⟩
    · refine hy.trans (Eq.trans ?_ (KernelIdeal.Value.result_y m g c).symm)
      refine regroup_eq ?_
      unfold linearV
      exact linearOf_eq hcodes e1 s1.symm (congrFun e2 _)
    · refine hc.trans (Eq.trans ?_ (KernelIdeal.Value.result_codes m g c).symm)
      exact regroup_eq hcodes
    · refine hs.trans (Eq.trans ?_ (KernelIdeal.Value.result_scale m g c).symm)
      exact scalar_eq s1

end Cert.Value

end
-- ==== Proof.lean ====
module

public import proofs.«01_k».proof.Defs
public import proofs.«01_k».proof.Proof.Gen.Kernel
public import proofs.«01_k».proof.Proof.Gen.Kernel.Frame
public import proofs.«01_k».proof.Proof.Value.Algebraic

@[expose] public section

noncomputable section

namespace Cert.Proof

open Idealize.ShloMosaic Idealize.SL.Sem

/-- Everything the certificate claims: the kernel, its idealization and the reference run, end with every counter at zero and leave their
    arguments as launched; the idealization is the kernel's own text; and the idealized kernel's three results equal the reference's. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, fun m ρ _ => Cert.ReferenceIdeal.Gen.frame m ρ, trivial, Cert.Value.algebraic⟩

end Cert.Proof

end
